-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x256 : Shape := ⟨2, ![256, 256]⟩
abbrev S3x2x64x256 : Shape := ⟨4, ![3, 2, 64, 256]⟩
abbrev S3x2 : Shape := ⟨2, ![3, 2]⟩
abbrev S_ : Shape := ⟨0, ![]⟩
abbrev S1x1 : Shape := ⟨2, ![1, 1]⟩
abbrev S1x1x64x256 : Shape := ⟨4, ![1, 1, 64, 256]⟩
abbrev S64x256 : Shape := ⟨2, ![64, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x256, .bf16⟩
  | .hbm, ⟨2, _⟩ => ⟨S512x256, .bf16⟩
  | .local _ .vmem, ⟨0, _⟩ => ⟨S512x256, .bf16⟩
  | .local _ .vmem, ⟨1, _⟩ => ⟨S256x256, .bf16⟩
  | .local _ .vmem, ⟨2, _⟩ => ⟨S512x256, .bf16⟩
  | .local _ .vmem, ⟨3, _⟩ => ⟨S512x256, .bf16⟩
  | .local _ .vmem, ⟨4, _⟩ => ⟨S3x2x64x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.addi v2 c1_i32_5
  let c4_i32_6 : BitVec 32 := 4#32
  let c0_i32 : BitVec 32 := 0#32
  let v12 : BitVec 1 := Scalar.cmpi .eq c4_i32_6 c0_i32
  let c1_i32_7 : BitVec 32 := 1#32
  let v13 : BitVec 32 := Scalar.select v12 c1_i32_7 c4_i32_6
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c1_i32_12 : BitVec 32 := 1#32
  let v22 : BitVec 32 := Scalar.muli v21 c1_i32_12
  let v23 : BitVec 32 := Scalar.addi c0_i32_13 v22
  v23.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v24 : BitVec 32 := Scalar.addi v2 c2_i32
  let c4_i32_14 : BitVec 32 := 4#32
  let c0_i32_15 : BitVec 32 := 0#32
  let v25 : BitVec 1 := Scalar.cmpi .eq c4_i32_14 c0_i32_15
  let c1_i32_16 : BitVec 32 := 1#32
  let v26 : BitVec 32 := Scalar.select v25 c1_i32_16 c4_i32_14
  let v27 : BitVec 32 := Scalar.remsi v24 v26
  let c0_i32_18 : BitVec 32 := 0#32
  let v29 : BitVec 1 := Scalar.cmpi .slt v27 c0_i32_18
  let c0_i32_19 : BitVec 32 := 0#32
  let v30 : BitVec 1 := Scalar.cmpi .slt v26 c0_i32_19
  let v31 : BitVec 1 := Scalar.xori v29 v30
  let c0_i32_17 : BitVec 32 := 0#32
  let v28 : BitVec 1 := Scalar.cmpi .ne v27 c0_i32_17
  let v32 : BitVec 1 := Scalar.andi v31 v28
  let v33 : BitVec 32 := Scalar.addi v27 v26
  let v34 : BitVec 32 := Scalar.select v32 v33 v27
  let c1_i32_21 : BitVec 32 := 1#32
  let v35 : BitVec 32 := Scalar.muli v34 c1_i32_21
  let v36 : BitVec 32 := Scalar.addi c0_i32_22 v35
  v36.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v37 : BitVec 32 := Scalar.addi v2 c3_i32
  let c4_i32_23 : BitVec 32 := 4#32
  let c0_i32_24 : BitVec 32 := 0#32
  let v38 : BitVec 1 := Scalar.cmpi .eq c4_i32_23 c0_i32_24
  let c1_i32_25 : BitVec 32 := 1#32
  let v39 : BitVec 32 := Scalar.select v38 c1_i32_25 c4_i32_23
  let v40 : BitVec 32 := Scalar.remsi v37 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let c1_i32_30 : BitVec 32 := 1#32
  let v48 : BitVec 32 := Scalar.muli v47 c1_i32_30
  let v49 : BitVec 32 := Scalar.addi c0_i32_31 v48
  v49.toNat
def k0_off1 (d0 : Dev nD) (c2_i32_33 : BitVec 32) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v50 : BitVec 32 := Scalar.addi v2 c2_i32_33
  let c4_i32_34 : BitVec 32 := 4#32
  let c0_i32_35 : BitVec 32 := 0#32
  let v51 : BitVec 1 := Scalar.cmpi .eq c4_i32_34 c0_i32_35
  let c1_i32_36 : BitVec 32 := 1#32
  let v52 : BitVec 32 := Scalar.select v51 c1_i32_36 c4_i32_34
  let v53 : BitVec 32 := Scalar.remsi v50 v52
  let c0_i32_38 : BitVec 32 := 0#32
  let v55 : BitVec 1 := Scalar.cmpi .slt v53 c0_i32_38
  let c0_i32_39 : BitVec 32 := 0#32
  let v56 : BitVec 1 := Scalar.cmpi .slt v52 c0_i32_39
  let v57 : BitVec 1 := Scalar.xori v55 v56
  let c0_i32_37 : BitVec 32 := 0#32
  let v54 : BitVec 1 := Scalar.cmpi .ne v53 c0_i32_37
  let v58 : BitVec 1 := Scalar.andi v57 v54
  let v59 : BitVec 32 := Scalar.addi v53 v52
  let v60 : BitVec 32 := Scalar.select v58 v59 v53
  let c128_i32 : BitVec 32 := 128#32
  let v61 : BitVec 32 := Scalar.muli v60 c128_i32
  let v62 : BitVec 32 := Scalar.addi v61 c0_i32_40
  let c0_i32_51 : BitVec 32 := 0#32
  ![v62.toNat, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v50 : BitVec 32 := Scalar.addi v2 c2_i32_33
  let c4_i32_34 : BitVec 32 := 4#32
  let c0_i32_35 : BitVec 32 := 0#32
  let v51 : BitVec 1 := Scalar.cmpi .eq c4_i32_34 c0_i32_35
  let c1_i32_36 : BitVec 32 := 1#32
  let v52 : BitVec 32 := Scalar.select v51 c1_i32_36 c4_i32_34
  let v53 : BitVec 32 := Scalar.remsi v50 v52
  let c0_i32_38 : BitVec 32 := 0#32
  let v55 : BitVec 1 := Scalar.cmpi .slt v53 c0_i32_38
  let c0_i32_39 : BitVec 32 := 0#32
  let v56 : BitVec 1 := Scalar.cmpi .slt v52 c0_i32_39
  let v57 : BitVec 1 := Scalar.xori v55 v56
  let c0_i32_37 : BitVec 32 := 0#32
  let v54 : BitVec 1 := Scalar.cmpi .ne v53 c0_i32_37
  let v58 : BitVec 1 := Scalar.andi v57 v54
  let v59 : BitVec 32 := Scalar.addi v53 v52
  let v60 : BitVec 32 := Scalar.select v58 v59 v53
  let c1_i32_47 : BitVec 32 := 1#32
  let v63 : BitVec 32 := Scalar.muli v60 c1_i32_47
  let v64 : BitVec 32 := Scalar.addi c0_i32_48 v63
  v64.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_52 : BitVec 32 := 1#32
  let v72 : BitVec 32 := Scalar.addi v2 c1_i32_52
  let c4_i32_53 : BitVec 32 := 4#32
  let c0_i32_54 : BitVec 32 := 0#32
  let v73 : BitVec 1 := Scalar.cmpi .eq c4_i32_53 c0_i32_54
  let c1_i32_55 : BitVec 32 := 1#32
  let v74 : BitVec 32 := Scalar.select v73 c1_i32_55 c4_i32_53
  let v75 : BitVec 32 := Scalar.remsi v72 v74
  let c0_i32_57 : BitVec 32 := 0#32
  let v77 : BitVec 1 := Scalar.cmpi .slt v75 c0_i32_57
  let c0_i32_58 : BitVec 32 := 0#32
  let v78 : BitVec 1 := Scalar.cmpi .slt v74 c0_i32_58
  let v79 : BitVec 1 := Scalar.xori v77 v78
  let c0_i32_56 : BitVec 32 := 0#32
  let v76 : BitVec 1 := Scalar.cmpi .ne v75 c0_i32_56
  let v80 : BitVec 1 := Scalar.andi v79 v76
  let v81 : BitVec 32 := Scalar.addi v75 v74
  let v82 : BitVec 32 := Scalar.select v80 v81 v75
  let c1_i32_67 : BitVec 32 := 1#32
  let v85 : BitVec 32 := Scalar.muli v82 c1_i32_67
  let v86 : BitVec 32 := Scalar.addi c0_i32_68 v85
  v86.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  let v94 : BitVec 32 := Scalar.addi v2 c3_i32_72
  let c4_i32_73 : BitVec 32 := 4#32
  let c0_i32_74 : BitVec 32 := 0#32
  let v95 : BitVec 1 := Scalar.cmpi .eq c4_i32_73 c0_i32_74
  let c1_i32_75 : BitVec 32 := 1#32
  let v96 : BitVec 32 := Scalar.select v95 c1_i32_75 c4_i32_73
  let v97 : BitVec 32 := Scalar.remsi v94 v96
  let c0_i32_77 : BitVec 32 := 0#32
  let v99 : BitVec 1 := Scalar.cmpi .slt v97 c0_i32_77
  let c0_i32_78 : BitVec 32 := 0#32
  let v100 : BitVec 1 := Scalar.cmpi .slt v96 c0_i32_78
  let v101 : BitVec 1 := Scalar.xori v99 v100
  let c0_i32_76 : BitVec 32 := 0#32
  let v98 : BitVec 1 := Scalar.cmpi .ne v97 c0_i32_76
  let v102 : BitVec 1 := Scalar.andi v101 v98
  let v103 : BitVec 32 := Scalar.addi v97 v96
  let v104 : BitVec 32 := Scalar.select v102 v103 v97
  let c1_i32_87 : BitVec 32 := 1#32
  let v107 : BitVec 32 := Scalar.muli v104 c1_i32_87
  let v108 : BitVec 32 := Scalar.addi c0_i32_88 v107
  v108.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_92 : BitVec 32 := 2#32
  let v116 : BitVec 32 := Scalar.addi v2 c2_i32_92
  let c4_i32_93 : BitVec 32 := 4#32
  let c0_i32_94 : BitVec 32 := 0#32
  let v117 : BitVec 1 := Scalar.cmpi .eq c4_i32_93 c0_i32_94
  let c1_i32_95 : BitVec 32 := 1#32
  let v118 : BitVec 32 := Scalar.select v117 c1_i32_95 c4_i32_93
  let v119 : BitVec 32 := Scalar.remsi v116 v118
  let c0_i32_97 : BitVec 32 := 0#32
  let v121 : BitVec 1 := Scalar.cmpi .slt v119 c0_i32_97
  let c0_i32_98 : BitVec 32 := 0#32
  let v122 : BitVec 1 := Scalar.cmpi .slt v118 c0_i32_98
  let v123 : BitVec 1 := Scalar.xori v121 v122
  let c0_i32_96 : BitVec 32 := 0#32
  let v120 : BitVec 1 := Scalar.cmpi .ne v119 c0_i32_96
  let v124 : BitVec 1 := Scalar.andi v123 v120
  let v125 : BitVec 32 := Scalar.addi v119 v118
  let v126 : BitVec 32 := Scalar.select v124 v125 v119
  let c1_i32_106 : BitVec 32 := 1#32
  let v129 : BitVec 32 := Scalar.muli v126 c1_i32_106
  let v130 : BitVec 32 := Scalar.addi c0_i32_107 v129
  v130.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_111 : BitVec 32 := 1#32
  let v138 : BitVec 32 := Scalar.addi v2 c1_i32_111
  let c4_i32_112 : BitVec 32 := 4#32
  let c0_i32_113 : BitVec 32 := 0#32
  let v139 : BitVec 1 := Scalar.cmpi .eq c4_i32_112 c0_i32_113
  let c1_i32_114 : BitVec 32 := 1#32
  let v140 : BitVec 32 := Scalar.select v139 c1_i32_114 c4_i32_112
  let v141 : BitVec 32 := Scalar.remsi v138 v140
  let c0_i32_116 : BitVec 32 := 0#32
  let v143 : BitVec 1 := Scalar.cmpi .slt v141 c0_i32_116
  let c0_i32_117 : BitVec 32 := 0#32
  let v144 : BitVec 1 := Scalar.cmpi .slt v140 c0_i32_117
  let v145 : BitVec 1 := Scalar.xori v143 v144
  let c0_i32_115 : BitVec 32 := 0#32
  let v142 : BitVec 1 := Scalar.cmpi .ne v141 c0_i32_115
  let v146 : BitVec 1 := Scalar.andi v145 v142
  let v147 : BitVec 32 := Scalar.addi v141 v140
  let v148 : BitVec 32 := Scalar.select v146 v147 v141
  let c1_i32_126 : BitVec 32 := 1#32
  let v151 : BitVec 32 := Scalar.muli v148 c1_i32_126
  let v152 : BitVec 32 := Scalar.addi c0_i32_127 v151
  v152.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_131 : BitVec 32 := 3#32
  let v160 : BitVec 32 := Scalar.addi v2 c3_i32_131
  let c4_i32_132 : BitVec 32 := 4#32
  let c0_i32_133 : BitVec 32 := 0#32
  let v161 : BitVec 1 := Scalar.cmpi .eq c4_i32_132 c0_i32_133
  let c1_i32_134 : BitVec 32 := 1#32
  let v162 : BitVec 32 := Scalar.select v161 c1_i32_134 c4_i32_132
  let v163 : BitVec 32 := Scalar.remsi v160 v162
  let c0_i32_136 : BitVec 32 := 0#32
  let v165 : BitVec 1 := Scalar.cmpi .slt v163 c0_i32_136
  let c0_i32_137 : BitVec 32 := 0#32
  let v166 : BitVec 1 := Scalar.cmpi .slt v162 c0_i32_137
  let v167 : BitVec 1 := Scalar.xori v165 v166
  let c0_i32_135 : BitVec 32 := 0#32
  let v164 : BitVec 1 := Scalar.cmpi .ne v163 c0_i32_135
  let v168 : BitVec 1 := Scalar.andi v167 v164
  let v169 : BitVec 32 := Scalar.addi v163 v162
  let v170 : BitVec 32 := Scalar.select v168 v169 v163
  let c1_i32_146 : BitVec 32 := 1#32
  let v173 : BitVec 32 := Scalar.muli v170 c1_i32_146
  let v174 : BitVec 32 := Scalar.addi c0_i32_147 v173
  v174.toNat
def k0_off2 (d0 : Dev nD) (c0_i32_152 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_151 : BitVec 32 := 128#32
  let v182 : BitVec 32 := Scalar.muli v2 c128_i32_151
  let v183 : BitVec 32 := Scalar.addi v182 c0_i32_152
  let v184 : Index := Scalar.indexCast v183
  let c0_153 : Index := 0#32
  ![v184.toNat, 0]
def k0_off3 (d0 : Dev nD) (c0_i32_210 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_209 : BitVec 32 := 128#32
  let v241 : BitVec 32 := Scalar.muli v2 c128_i32_209
  let v242 : BitVec 32 := Scalar.addi v241 c0_i32_210
  let c0_i32_217 : BitVec 32 := 0#32
  ![v242.toNat, 0]
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_200 : BitVec 32 := 2#32
  let v228 : BitVec 32 := Scalar.addi v2 c2_i32_200
  let c4_i32_201 : BitVec 32 := 4#32
  let c0_i32_202 : BitVec 32 := 0#32
  let v229 : BitVec 1 := Scalar.cmpi .eq c4_i32_201 c0_i32_202
  let c1_i32_203 : BitVec 32 := 1#32
  let v230 : BitVec 32 := Scalar.select v229 c1_i32_203 c4_i32_201
  let v231 : BitVec 32 := Scalar.remsi v228 v230
  let c0_i32_205 : BitVec 32 := 0#32
  let v233 : BitVec 1 := Scalar.cmpi .slt v231 c0_i32_205
  let c0_i32_206 : BitVec 32 := 0#32
  let v234 : BitVec 1 := Scalar.cmpi .slt v230 c0_i32_206
  let v235 : BitVec 1 := Scalar.xori v233 v234
  let c0_i32_204 : BitVec 32 := 0#32
  let v232 : BitVec 1 := Scalar.cmpi .ne v231 c0_i32_204
  let v236 : BitVec 1 := Scalar.andi v235 v232
  let v237 : BitVec 32 := Scalar.addi v231 v230
  let v238 : BitVec 32 := Scalar.select v236 v237 v231
  let c1_i32_215 : BitVec 32 := 1#32
  let v243 : BitVec 32 := Scalar.muli v238 c1_i32_215
  let v244 : BitVec 32 := Scalar.addi c0_i32_216 v243
  v244.toNat
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v251 : BitVec 32 := Scalar.addi v2 c1_i32_219
  let c4_i32_220 : BitVec 32 := 4#32
  let c0_i32_221 : BitVec 32 := 0#32
  let v252 : BitVec 1 := Scalar.cmpi .eq c4_i32_220 c0_i32_221
  let c1_i32_222 : BitVec 32 := 1#32
  let v253 : BitVec 32 := Scalar.select v252 c1_i32_222 c4_i32_220
  let v254 : BitVec 32 := Scalar.remsi v251 v253
  let c0_i32_224 : BitVec 32 := 0#32
  let v256 : BitVec 1 := Scalar.cmpi .slt v254 c0_i32_224
  let c0_i32_225 : BitVec 32 := 0#32
  let v257 : BitVec 1 := Scalar.cmpi .slt v253 c0_i32_225
  let v258 : BitVec 1 := Scalar.xori v256 v257
  let c0_i32_223 : BitVec 32 := 0#32
  let v255 : BitVec 1 := Scalar.cmpi .ne v254 c0_i32_223
  let v259 : BitVec 1 := Scalar.andi v258 v255
  let v260 : BitVec 32 := Scalar.addi v254 v253
  let v261 : BitVec 32 := Scalar.select v259 v260 v254
  let c1_i32_234 : BitVec 32 := 1#32
  let v266 : BitVec 32 := Scalar.muli v261 c1_i32_234
  let v267 : BitVec 32 := Scalar.addi c0_i32_235 v266
  v267.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_238 : BitVec 32 := 3#32
  let v274 : BitVec 32 := Scalar.addi v2 c3_i32_238
  let c4_i32_239 : BitVec 32 := 4#32
  let c0_i32_240 : BitVec 32 := 0#32
  let v275 : BitVec 1 := Scalar.cmpi .eq c4_i32_239 c0_i32_240
  let c1_i32_241 : BitVec 32 := 1#32
  let v276 : BitVec 32 := Scalar.select v275 c1_i32_241 c4_i32_239
  let v277 : BitVec 32 := Scalar.remsi v274 v276
  let c0_i32_243 : BitVec 32 := 0#32
  let v279 : BitVec 1 := Scalar.cmpi .slt v277 c0_i32_243
  let c0_i32_244 : BitVec 32 := 0#32
  let v280 : BitVec 1 := Scalar.cmpi .slt v276 c0_i32_244
  let v281 : BitVec 1 := Scalar.xori v279 v280
  let c0_i32_242 : BitVec 32 := 0#32
  let v278 : BitVec 1 := Scalar.cmpi .ne v277 c0_i32_242
  let v282 : BitVec 1 := Scalar.andi v281 v278
  let v283 : BitVec 32 := Scalar.addi v277 v276
  let v284 : BitVec 32 := Scalar.select v282 v283 v277
  let c1_i32_253 : BitVec 32 := 1#32
  let v289 : BitVec 32 := Scalar.muli v284 c1_i32_253
  let v290 : BitVec 32 := Scalar.addi c0_i32_254 v289
  v290.toNat
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_309 : BitVec 32 := 2#32
  let v343 : BitVec 32 := Scalar.addi v2 c2_i32_309
  let c4_i32_310 : BitVec 32 := 4#32
  let c0_i32_311 : BitVec 32 := 0#32
  let v344 : BitVec 1 := Scalar.cmpi .eq c4_i32_310 c0_i32_311
  let c1_i32_312 : BitVec 32 := 1#32
  let v345 : BitVec 32 := Scalar.select v344 c1_i32_312 c4_i32_310
  let v346 : BitVec 32 := Scalar.remsi v343 v345
  let c0_i32_314 : BitVec 32 := 0#32
  let v348 : BitVec 1 := Scalar.cmpi .slt v346 c0_i32_314
  let c0_i32_315 : BitVec 32 := 0#32
  let v349 : BitVec 1 := Scalar.cmpi .slt v345 c0_i32_315
  let v350 : BitVec 1 := Scalar.xori v348 v349
  let c0_i32_313 : BitVec 32 := 0#32
  let v347 : BitVec 1 := Scalar.cmpi .ne v346 c0_i32_313
  let v351 : BitVec 1 := Scalar.andi v350 v347
  let v352 : BitVec 32 := Scalar.addi v346 v345
  let v353 : BitVec 32 := Scalar.select v351 v352 v346
  let c1_i32_324 : BitVec 32 := 1#32
  let v358 : BitVec 32 := Scalar.muli v353 c1_i32_324
  let v359 : BitVec 32 := Scalar.addi c0_i32_325 v358
  v359.toNat
def k0_dev14 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_328 : BitVec 32 := 1#32
  let v366 : BitVec 32 := Scalar.addi v2 c1_i32_328
  let c4_i32_329 : BitVec 32 := 4#32
  let c0_i32_330 : BitVec 32 := 0#32
  let v367 : BitVec 1 := Scalar.cmpi .eq c4_i32_329 c0_i32_330
  let c1_i32_331 : BitVec 32 := 1#32
  let v368 : BitVec 32 := Scalar.select v367 c1_i32_331 c4_i32_329
  let v369 : BitVec 32 := Scalar.remsi v366 v368
  let c0_i32_333 : BitVec 32 := 0#32
  let v371 : BitVec 1 := Scalar.cmpi .slt v369 c0_i32_333
  let c0_i32_334 : BitVec 32 := 0#32
  let v372 : BitVec 1 := Scalar.cmpi .slt v368 c0_i32_334
  let v373 : BitVec 1 := Scalar.xori v371 v372
  let c0_i32_332 : BitVec 32 := 0#32
  let v370 : BitVec 1 := Scalar.cmpi .ne v369 c0_i32_332
  let v374 : BitVec 1 := Scalar.andi v373 v370
  let v375 : BitVec 32 := Scalar.addi v369 v368
  let v376 : BitVec 32 := Scalar.select v374 v375 v369
  let c1_i32_343 : BitVec 32 := 1#32
  let v381 : BitVec 32 := Scalar.muli v376 c1_i32_343
  let v382 : BitVec 32 := Scalar.addi c0_i32_344 v381
  v382.toNat
def k0_dev15 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_347 : BitVec 32 := 3#32
  let v389 : BitVec 32 := Scalar.addi v2 c3_i32_347
  let c4_i32_348 : BitVec 32 := 4#32
  let c0_i32_349 : BitVec 32 := 0#32
  let v390 : BitVec 1 := Scalar.cmpi .eq c4_i32_348 c0_i32_349
  let c1_i32_350 : BitVec 32 := 1#32
  let v391 : BitVec 32 := Scalar.select v390 c1_i32_350 c4_i32_348
  let v392 : BitVec 32 := Scalar.remsi v389 v391
  let c0_i32_352 : BitVec 32 := 0#32
  let v394 : BitVec 1 := Scalar.cmpi .slt v392 c0_i32_352
  let c0_i32_353 : BitVec 32 := 0#32
  let v395 : BitVec 1 := Scalar.cmpi .slt v391 c0_i32_353
  let v396 : BitVec 1 := Scalar.xori v394 v395
  let c0_i32_351 : BitVec 32 := 0#32
  let v393 : BitVec 1 := Scalar.cmpi .ne v392 c0_i32_351
  let v397 : BitVec 1 := Scalar.andi v396 v393
  let v398 : BitVec 32 := Scalar.addi v392 v391
  let v399 : BitVec 32 := Scalar.select v397 v398 v392
  let c1_i32_362 : BitVec 32 := 1#32
  let v404 : BitVec 32 := Scalar.muli v399 c1_i32_362
  let v405 : BitVec 32 := Scalar.addi c0_i32_363 v404
  v405.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x256 : Shape := ⟨2, ![2048, 256]⟩
abbrev S256x256 : Shape := ⟨2, ![256, 256]⟩
abbrev S4x512x256 : Shape := ⟨3, ![4, 512, 256]⟩
abbrev S_ : Shape := ⟨0, ![]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x256, .bf16⟩
  | .hbm, ⟨2, _⟩ => ⟨S2048x256, .f32⟩
  | .hbm, ⟨3, _⟩ => ⟨S4x512x256, .f32⟩
  | .hbm, ⟨4, _⟩ => ⟨S_, .f32⟩
  | .hbm, ⟨5, _⟩ => ⟨S512x256, .f32⟩
  | .hbm, ⟨6, _⟩ => ⟨S512x256, .bf16⟩
  | .hbm, ⟨7, _⟩ => ⟨S512x256, .f32⟩
  | .hbm, ⟨8, _⟩ => ⟨S512x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Plan.lean ====
/-
# The all-reduce of row blocks: cells, contents and the schedule of landings

Four devices. Device `c` holds a partial array `t` of 512 rows, in four groups of 128 rows, each group in two halves of 64.
Half `h` of group `p` is summed over the devices at device `p`, multiplied by the weights there, and the product is copied
to every other device.

Who pays whom (all in round 0 of the cell named; `nx c j` is the device `j + 1` places after `c`, `pr c j` the one before):

* the barrier cell of `p`: three duties of one unit; duty `j` is paid by `nx p j`, which hands over its landing slots
  `(j, 0)` and `(j, 1)` and the rows of group `p` in its result buffer;
* kind 1, slot `(j, h)` of `d`: paid by `pr d j`'s copy of half `h` of group `d`; the landing slot comes with it;
* kind 0, slot `(j, h)` of `c`: the same copy's source comes back to `c`;
* kind 3, slot `(j, h)` of `d`: paid by `pr d j`'s copy of its product; the rows of group `pr d j` come with it;
* kind 2, slot `(j, h)` of `c`: one of the three read shares of `c`'s own product comes back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Ring
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

/-- The rounds component (duties named by three numbers), beside the pipeline's own. -/
abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The devices around `c` -/

/-- The device `j + 1` places after `c`. -/
def nx (c : Dev nD) (j : Fin 3) : Dev nD := ⟨(c.val + j.val + 1) % 4, Nat.mod_lt _ (by decide)⟩
/-- The device `j + 1` places before `c`. -/
def pr (c : Dev nD) (j : Fin 3) : Dev nD := ⟨(c.val + 3 - j.val) % 4, Nat.mod_lt _ (by decide)⟩

theorem pr_nx (c : Dev nD) (j : Fin 3) : pr (nx c j) j = c := by revert c j; decide
theorem nx_pr (c : Dev nD) (j : Fin 3) : nx (pr c j) j = c := by revert c j; decide

/-- `nx · j` as a rotation of the devices. -/
def rot (j : Fin 3) : Dev nD ≃ Dev nD := ⟨fun c => nx c j, fun c => pr c j, fun c => pr_nx c j, fun c => nx_pr c j⟩

/-! ## Memrefs and cells -/

abbrev tM : Memref sig .tc .vmem S512x256 .bf16 := Memref.whole cc0_stg0_0
abbrev wM : Memref sig .tc .vmem S256x256 .bf16 := Memref.whole cc0_stg1_0
abbrev oM : Memref sig .tc .vmem S512x256 .bf16 := Memref.whole cc0_stg2_0
abbrev sM : Memref sig .tc .vmem S512x256 .bf16 := Memref.whole cc0_scratch0
abbrev rM : Memref sig .tc .vmem S3x2x64x256 .bf16 := Memref.whole cc0_scratch1

/-- The runtime's barrier semaphore. -/
abbrev barS : Sem sig := (SemArray.scalar (sig.barrier 0 rfl) : Sems sig S_).sem

/-- The place of kind `k`, slot `(j, h)` among the kernel's own 24 semaphores. -/
abbrev dix (k : Fin 4) (j : Fin 3) (h : Fin 2) : Fin 24 := ⟨6 * k.val + 2 * j.val + h.val, by omega⟩
/-- Semaphore `a` of the kernel's own 24 in the processor's pool, after the three staging ones. -/
abbrev dsem (a : Fin 24) : DmaSem sig := (⟨3 + a.val, by have := a.isLt; show 3 + a.val < 27; omega⟩ : Fin 27)

abbrev kindOf (a : Fin 24) : Fin 4 := ⟨a.val / 6, by omega⟩
abbrev slotOf (a : Fin 24) : Fin 3 := ⟨a.val % 6 / 2, by omega⟩
abbrev halfOf (a : Fin 24) : Fin 2 := ⟨a.val % 2, by omega⟩

theorem kindOf_dix (k : Fin 4) (j : Fin 3) (h : Fin 2) : kindOf (dix k j h) = k := by revert k j h; decide
theorem slotOf_dix (k : Fin 4) (j : Fin 3) (h : Fin 2) : slotOf (dix k j h) = j := by revert k j h; decide
theorem halfOf_dix (k : Fin 4) (j : Fin 3) (h : Fin 2) : halfOf (dix k j h) = h := by revert k j h; decide

abbrev osem : Fin 24 → SemLoc sig := fun a => .dma (dsem a)
/-- The semaphores of the protocol: the barrier and the kernel's own. -/
abbrev csem : Option (Fin 24) → SemLoc sig | none => .reg barS | some a => .dma (dsem a)
abbrev kcell (ck : Dev nD × Option (Fin 24)) : GSem nD τ sig := ((ck.1 : Thread nD τ), csem ck.2)
abbrev barCell (c : Dev nD) : GSem nD τ sig := kcell (c, none)
abbrev dmaCell (c : Dev nD) (a : Fin 24) : GSem nD τ sig := kcell (c, some a)

theorem dsem_injective : Function.Injective dsem := fun a b h => Fin.ext (by
  have := congrArg (fun q : Fin 27 => q.val) h; simp only [dsem] at this; omega)

theorem csem_injective : Function.Injective csem := by
  rintro (_ | a) (_ | b) h
  · rfl
  · exact absurd h (fun h' => by cases h')
  · exact absurd h (fun h' => by cases h')
  · rw [dsem_injective (SemLoc.dma.inj h)]

theorem kcell_injective : Function.Injective (kcell : Dev nD × Option (Fin 24) → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-! ## Element sets: halves of row groups, landing slots -/

theorem row_inb (p : Fin 4) (h : Fin 2) : ∀ a, (![128 * p.val + 64 * h.val, 0] : Fin 2 → ℕ) a + S64x256.size a ≤ S512x256.size a := by
  revert p h; decide
theorem slot_inb (j : Fin 3) (h : Fin 2) : ∀ a, (![j.val, h.val, 0, 0] : Fin 4 → ℕ) a + S1x1x64x256.size a ≤ S3x2x64x256.size a := by
  revert j h; decide

/-- Half `h` of row group `p`. -/
abbrev rowR (p : Fin 4) (h : Fin 2) : Rect S512x256 := Rect.unit ![128 * p.val + 64 * h.val, 0] S64x256.size (row_inb p h)
/-- Landing slot `(j, h)`. -/
abbrev slotR (j : Fin 3) (h : Fin 2) : Rect S3x2x64x256 := Rect.unit ![j.val, h.val, 0, 0] S1x1x64x256.size (slot_inb j h)

def rset (p : Fin 4) (h : Fin 2) : Finset S512x256.Idx := (rowR p h).set
def cset (j : Fin 3) (h : Fin 2) : Finset S3x2x64x256.Idx := (slotR j h).set

theorem mem_rset {p : Fin 4} {h : Fin 2} {i : S512x256.Idx} : i ∈ rset p h ↔ (i 0).val / 64 = 2 * p.val + h.val := by
  unfold rset
  rw [Rect.mem_set_unit, Fin.forall_fin_two]
  have h1 : (i 1).val < 256 := (i 1).isLt
  simp only [Matrix.cons_val_zero, Matrix.cons_val_one]
  omega

theorem mem_cset {j : Fin 3} {h : Fin 2} {i : S3x2x64x256.Idx} : i ∈ cset j h ↔ (i 0).val = j.val ∧ (i 1).val = h.val := by
  unfold cset
  rw [Rect.mem_set_unit]
  have h2 : (i 2).val < 64 := (i 2).isLt
  have h3 : (i 3).val < 256 := (i 3).isLt
  constructor
  · intro H
    have h0 := H 0; have h1 := H 1
    simp at h0 h1
    omega
  · rintro ⟨h0, h1⟩ a
    fin_cases a <;> simp <;> omega

/-- Where half `h` of group `p` keeps its element `x`. -/
abbrev rowAt (p : Fin 4) (h : Fin 2) (x : S64x256.Idx) : S512x256.Idx := (rowR p h).emb x
/-- Where slot `(j, h)` keeps its element `x`. -/
abbrev slotAt (j : Fin 3) (h : Fin 2) (x : S1x1x64x256.Idx) : S3x2x64x256.Idx := (slotR j h).emb x
/-- The two leading unit axes dropped. -/
def drop2 (x : S1x1x64x256.Idx) : S64x256.Idx := fun | 0 => x 2 | 1 => x 3

theorem reshape_drop2 (e : S64x256.numel = S1x1x64x256.numel) (x : S64x256.Idx) : drop2 (Shape.reshapeEquiv e x) = x := by
  have h := Shape.rowMajor_reshapeEquiv e x
  rw [Shape.rowMajor_val_two, Shape.rowMajor_val_four] at h
  generalize Shape.reshapeEquiv e x = y at h
  have y0 : (y 0).val < 1 := (y 0).isLt
  have y1 : (y 1).val < 1 := (y 1).isLt
  have y2 : (y 2).val < 64 := (y 2).isLt
  have y3 : (y 3).val < 256 := (y 3).isLt
  have x0 : (x 0).val < 64 := (x 0).isLt
  have x1 : (x 1).val < 256 := (x 1).isLt
  simp at h
  funext a
  fin_cases a
  · exact Fin.ext (show (y 2).val = (x 0).val by omega)
  · exact Fin.ext (show (y 3).val = (x 1).val by omega)

/-! ## Contents -/

/-- The partial array and the weights, as staged on device `c`. -/
def xstg (c : Dev nD) : S512x256.Idx → Elt F .bf16 :=
  (win0_0.blk (0 : Fin 1)).view.read (Elt F) (m ((c : Thread nD τ).loc main_arg0))
def wstg (c : Dev nD) : S256x256.Idx → Elt F .bf16 :=
  (win0_1.blk (0 : Fin 1)).view.read (Elt F) (m ((c : Thread nD τ).loc main_arg1))

/-- The source buffer of device `c`'s copies. -/
def srcF (c : Dev nD) : S512x256.Idx → Elt F .bf16 := k0_pay1 (xstg m c)

/-- The landing buffer of device `c`, all six copies landed: slot `(j, h)` has half `h` of group `c` of device `pr c j`. -/
def landF (c : Dev nD) : S3x2x64x256.Idx → Elt F .bf16 := fun i =>
  srcF m (pr c ⟨(i 0).val, (i 0).isLt⟩) (rowAt c ⟨(i 1).val, (i 1).isLt⟩ (fun | 0 => i 2 | 1 => i 3))

/-- What device `p` reads for half `h`: its own rows, and its landing slot `(j, h)`. -/
def ownV (p : Dev nD) (h : Fin 2) : Vec F S64x256 .bf16 := fun x => xstg m p (rowAt p h x)
def landV (p : Dev nD) (j : Fin 3) (h : Fin 2) : Vec F S1x1x64x256 .bf16 := fun x => landF m p (slotAt j h x)

/-- The product device `p` stores for half `h` of its group. -/
def prodV (p : Dev nD) (h : Fin 2) : S64x256.Idx → Elt F .bf16 :=
  k0_pay4 (k0_pay2 (wstg m p)) (k0_pay3 (ownV m p h) (landV m p 0 h) (landV m p 2 h)) (landV m p 1 h)

/-- The result every device ends with. -/
def outF : S512x256.Idx → Elt F .bf16 := fun i =>
  prodV m ⟨(i 0).val / 128, by have : (i 0).val < 512 := (i 0).isLt; show _ < 4; omega⟩ ⟨(i 0).val % 128 / 64, by omega⟩
    (fun | 0 => ⟨(i 0).val % 64, Nat.mod_lt _ (by decide)⟩ | 1 => i 1)

theorem landF_slotAt (c : Dev nD) (j : Fin 3) (h : Fin 2) (x : S1x1x64x256.Idx) :
    landF m c (slotAt j h x) = srcF m (pr c j) (rowAt c h (drop2 x)) := by
  have x0 : (x 0).val < 1 := (x 0).isLt
  have x1 : (x 1).val < 1 := (x 1).isLt
  have e0 : (⟨(slotAt j h x 0).val, (slotAt j h x 0).isLt⟩ : Fin 3) = j := Fin.ext (show j.val + 1 * (x 0).val = j.val by omega)
  have e1 : (⟨(slotAt j h x 1).val, (slotAt j h x 1).isLt⟩ : Fin 2) = h := Fin.ext (show h.val + 1 * (x 1).val = h.val by omega)
  have e2 : (fun | 0 => slotAt j h x 2 | 1 => slotAt j h x 3 : S64x256.Idx) = drop2 x := by
    funext a
    fin_cases a
    · exact Fin.ext (show 0 + 1 * (x 2).val = (x 2).val by omega)
    · exact Fin.ext (show 0 + 1 * (x 3).val = (x 3).val by omega)
  show srcF m (pr c ⟨(slotAt j h x 0).val, (slotAt j h x 0).isLt⟩) (rowAt c ⟨(slotAt j h x 1).val, (slotAt j h x 1).isLt⟩
    (fun | 0 => slotAt j h x 2 | 1 => slotAt j h x 3)) = _
  rw [e0, e1, e2]

theorem outF_rowAt (p : Dev nD) (h : Fin 2) (x : S64x256.Idx) : outF m (rowAt p h x) = prodV m p h x := by
  have x0 : (x 0).val < 64 := (x 0).isLt
  have hp : p.val < 4 := p.isLt
  have e : ((rowAt p h x) 0).val = 128 * p.val + 64 * h.val + (x 0).val := by
    show 128 * p.val + 64 * h.val + 1 * (x 0).val = _; omega
  have e0 : (⟨(rowAt p h x 0).val / 128, by omega⟩ : Fin 4) = p := Fin.ext (show (rowAt p h x 0).val / 128 = p.val by omega)
  have e1 : (⟨(rowAt p h x 0).val % 128 / 64, by omega⟩ : Fin 2) = h := Fin.ext (show (rowAt p h x 0).val % 128 / 64 = h.val by omega)
  have e2 : (fun | 0 => ⟨(rowAt p h x 0).val % 64, Nat.mod_lt _ (by decide)⟩ | 1 => rowAt p h x 1 : S64x256.Idx) = x := by
    funext a
    fin_cases a
    · exact Fin.ext (show (rowAt p h x 0).val % 64 = (x 0).val by omega)
    · exact Fin.ext (show 0 + 1 * (x 1).val = (x 1).val by omega)
  show prodV m ⟨(rowAt p h x 0).val / 128, _⟩ ⟨(rowAt p h x 0).val % 128 / 64, _⟩
    (fun | 0 => ⟨(rowAt p h x 0).val % 64, Nat.mod_lt _ (by decide)⟩ | 1 => rowAt p h x 1) = _
  exact (congrArg₂ (fun p h => prodV m p h _) e0 e1).trans (congrArg _ e2)

end Cert.AllReduce

end
-- ==== Proof.Sched.lean ====
/-
# The schedule of the protocol, what each device owes, and the order in which cells are waited on
-/
module

public import proofs.«01_k».proof.Proof.Plan

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The pieces handed around -/

/-- The read share with which a device's own product goes to the device `j + 1` places on. -/
def sh : Fin 3 → PosShare TreeShare | 0 => fullShare.left | 1 => fullShare.right.left | 2 => fullShare.right.right

/-- Half `h` of group `p` in device `c`'s copy source, holding its partial array. -/
def srcB (c : Dev nD) (p : Fin 4) (h : Fin 2) : sProp 𝕄 :=
  ((c : Thread nD τ).loc cc0_scratch0) ↦[(rset p h : Finset (Idx ((c : Thread nD τ).loc cc0_scratch0)))]{fullShare} srcF m c
/-- Landing slot `(j, h)` of device `c`, at contents `f`. -/
def landB (c : Dev nD) (j : Fin 3) (h : Fin 2) (f : S3x2x64x256.Idx → Elt F .bf16) : sProp 𝕄 :=
  ((c : Thread nD τ).loc cc0_scratch1) ↦[(cset j h : Finset (Idx ((c : Thread nD τ).loc cc0_scratch1)))]{fullShare} f
/-- Half `h` of group `p` in device `c`'s result buffer, at share `q` and contents `f`. -/
def outB (c : Dev nD) (p : Fin 4) (h : Fin 2) (q : PosShare TreeShare) (f : S512x256.Idx → Elt F .bf16) : sProp 𝕄 :=
  ((c : Thread nD τ).loc cc0_stg2_0) ↦[(rset p h : Finset (Idx ((c : Thread nD τ).loc cc0_stg2_0)))]{q} f

instance srcB_storable (c p h) : BI.Storable (upEmb : UEmb _ 𝕄) (srcB (F := F) m c p h) := by unfold srcB; infer_instance
instance landB_storable (c j h f) : BI.Storable (upEmb : UEmb _ 𝕄) (landB (F := F) c j h f) := by unfold landB; infer_instance
instance outB_storable (c p h q f) : BI.Storable (upEmb : UEmb _ 𝕄) (outB (F := F) c p h q f) := by unfold outB; infer_instance

/-- What duty `j` of device `p`'s barrier hands over: the payer's landing slots for `p` and its result rows of group `p`. -/
def barPay (p : Dev nD) (j : Fin 3) : sProp 𝕄 :=
  iprop((∃ f, landB (nx p j) j 0 f) ∗ (∃ f, landB (nx p j) j 1 f)
    ∗ (∃ f, outB (nx p j) p 0 fullShare f) ∗ (∃ f, outB (nx p j) p 1 fullShare f))

/-- What the landing on semaphore `a` of device `c` hands over, by its kind. -/
def dmaPay (c : Dev nD) (a : Fin 24) : sProp 𝕄 :=
  match kindOf a with
  | 0 => srcB m c (nx c (slotOf a)) (halfOf a)
  | 1 => landB c (slotOf a) (halfOf a) (landF m c)
  | 2 => outB c c (halfOf a) (sh (slotOf a)) (outF m)
  | 3 => outB c (pr c (slotOf a)) (halfOf a) fullShare (outF m)

theorem dmaPay_0 (c : Dev nD) (j h) : dmaPay m c (dix 0 j h) = srcB m c (nx c j) h := by
  have e := slotOf_dix 0 j h; have e' := halfOf_dix 0 j h; have k := kindOf_dix 0 j h
  unfold dmaPay; rw [k, e, e']
theorem dmaPay_1 (c : Dev nD) (j h) : dmaPay m c (dix 1 j h) = landB c j h (landF m c) := by
  have e := slotOf_dix 1 j h; have e' := halfOf_dix 1 j h; have k := kindOf_dix 1 j h
  unfold dmaPay; rw [k, e, e']
theorem dmaPay_2 (c : Dev nD) (j h) : dmaPay m c (dix 2 j h) = outB c c h (sh j) (outF m) := by
  have e := slotOf_dix 2 j h; have e' := halfOf_dix 2 j h; have k := kindOf_dix 2 j h
  unfold dmaPay; rw [k, e, e']
theorem dmaPay_3 (c : Dev nD) (j h) : dmaPay m c (dix 3 j h) = outB c (pr c j) h fullShare (outF m) := by
  have e := slotOf_dix 3 j h; have e' := halfOf_dix 3 j h; have k := kindOf_dix 3 j h
  unfold dmaPay; rw [k, e, e']

instance dmaPay_storable (c a) : BI.Storable (upEmb : UEmb _ 𝕄) (dmaPay (F := F) m c a) := by
  unfold dmaPay; split <;> infer_instance
instance barPay_storable (p j) : BI.Storable (upEmb : UEmb _ 𝕄) (barPay (F := F) p j) := by
  unfold barPay; infer_instance

/-! ## The schedule -/

/-- The credit of a copy of one half group. -/
abbrev N : ℕ := (sM.slice (rowR 0 0) (fun _ => rfl) : Memref sig .tc .vmem S64x256 .bf16).view.dmaCredit
theorem N_pos : 0 < N := View.dmaCredit_pos _ (by decide)

/-- A semaphore of the pool as a place among the kernel's own. -/
abbrev undsem (q : DmaSem sig) : Fin 24 := ⟨(q.val - 3) % 24, Nat.mod_lt _ (by decide)⟩
theorem undsem_dsem (a : Fin 24) : undsem (dsem a) = a := Fin.ext (by
  show (3 + a.val - 3) % 24 = a.val; omega)

/-- The duties of the first round: three at a barrier cell, one at a cell of the kernel's own. -/
def duties₀ : SemLoc sig → Finset (Fin 3)
  | .reg _ => Finset.univ
  | .dma _ => {0}
def amount₀ : SemLoc sig → ℕ
  | .reg _ => 1
  | .dma _ => N
def payload₀ (c : Dev nD) : SemLoc sig → Fin 3 → sProp 𝕄
  | .reg _, j => barPay c j
  | .dma q, _ => dmaPay m c (undsem q)

def Rd : Rounds.Schedule (GSem nD τ sig) (Fin 3) 𝕄 where
  duties g r := if r = 0 then duties₀ g.2 else ∅
  unitless _ := False
  amount g _ _ := amount₀ g.2
  payload g _ d := payload₀ m g.1.1 g.2 d
  amount_pos g _ _ _ := by
    rcases g.2 with s | q
    · exact Nat.one_pos
    · exact N_pos

instance Rd_storable (g : GSem nD τ sig) (r : ℕ) (d : Fin 3) : BI.Storable (upEmb : UEmb _ 𝕄) ((Rd (F := F) m).payload g r d) := by
  obtain ⟨⟨c, p⟩, s⟩ := g
  show BI.Storable upEmb (payload₀ m c s d)
  cases s with
  | reg s => exact barPay_storable c d
  | dma q => exact dmaPay_storable m c _

theorem duties_bar (c : Dev nD) : (Rd (F := F) m).duties (barCell c) 0 = Finset.univ := rfl
theorem duties_dma (c : Dev nD) (a) : (Rd (F := F) m).duties (dmaCell c a) 0 = {0} := rfl
theorem duties_later (g : GSem nD τ sig) : ∀ r, 1 ≤ r → (Rd (F := F) m).duties g r = ∅ :=
  fun r hr => if_neg (by omega)
theorem amount_bar (c : Dev nD) (d) : (Rd (F := F) m).amount (barCell c) 0 d = 1 := rfl
theorem amount_dma (c : Dev nD) (a d) : (Rd (F := F) m).amount (dmaCell c a) 0 d = N := rfl
theorem payload_bar (c : Dev nD) (j) : (Rd (F := F) m).payload (barCell c) 0 j = barPay c j := rfl
theorem payload_dma (c : Dev nD) (a d) : (Rd (F := F) m).payload (dmaCell c a) 0 d = dmaPay m c a := by
  show dmaPay m c (undsem (dsem a)) = _; rw [undsem_dsem]

theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (a) : (Rd (F := F) m).expect (dmaCell c a) 0 = N := by
  unfold Schedule.expect Schedule.amountOf; rw [duties_dma, Finset.sum_singleton, amount_dma]

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The whole round of a barrier cell: what its three payers hand over; -/
theorem rest_bar (c : Dev nD) : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_fin3, payload_bar, payload_bar, payload_bar]
/-- of a cell of the kernel's own: its landing. -/
theorem rest_dma (c : Dev nD) (a) : bigSep ((Rd (F := F) m).duties (dmaCell c a) 0 \ ∅) (fun d => (Rd (F := F) m).payload (dmaCell c a) 0 d)
    = dmaPay m c a := by
  rw [Finset.sdiff_empty, duties_dma, bigSep_singleton, payload_dma]

/-! ## What each device owes, and the levels -/

/-- The three barrier units device `c` pays, in order; -/
def payBar (c : Dev nD) : List (Pay nD τ sig) := [(barCell (pr c 2), 0, 1), (barCell (pr c 1), 0, 1), (barCell (pr c 0), 0, 1)]
/-- the order of the copies of one phase: the far device first; -/
def order : List (Fin 3 × Fin 2) := [(1, 0), (0, 0), (2, 0), (1, 1), (0, 1), (2, 1)]
/-- the landings it pays at kind `k`, in order; -/
def payDma (k : Fin 4) (c : Dev nD) : List (Pay nD τ sig) := order.map fun x => (dmaCell (nx c x.1) (dix k x.1 x.2), 0, N)
/-- all its dues, in the order it pays them. -/
def dues (c : Dev nD) : List (Pay nD τ sig) := payBar c ++ (payDma 1 c ++ payDma 3 c)

def L (g : GSem nD τ sig) : Finset ℕ := if g.1.2 = .tc then {0} else ∅
/-- The level of a semaphore: what is waited on only when nothing is owed at 0, the barrier at 1, the two kinds of landing
    at 2 and 3. -/
def lvS : SemLoc sig → ℕ
  | .reg _ => 1
  | .dma q => if 9 ≤ q.val ∧ q.val < 15 then 2 else if 21 ≤ q.val then 3 else 0
def lv (g : GSem nD τ sig) (_ : ℕ) : ℕ := lvS g.2

theorem L_of_ne (g : GSem nD τ sig) (h : g.1.2 ≠ .tc) : L g = ∅ := if_neg h
theorem L_tc (c : Dev nD) (sm : SemLoc sig) : L ((c : Thread nD τ), sm) = {0} := if_pos rfl

/-- A payment to a TensorCore's cell at the one index, at a level above `n`. -/
abbrev Above (n : ℕ) (x : Pay nD τ sig) : Prop := x.1.1.2 = .tc ∧ x.2.1 = 0 ∧ n < lvS x.1.2

/-- A device may wait on a cell while everything it owes lies at higher levels. -/
theorem mayWait (c : Dev nD) (sm : SemLoc sig) (l : List (Pay nD τ sig)) (h : ∀ x ∈ l, Above (lvS sm) x) :
    (levAts L lv : sProp 𝕄) ⊢ MayWait (c : Thread nD τ) sm 0 (tallyL l) :=
  MayOwe.of_cut (L := L) (lev := lv) (lvS sm)
    (fun p hp => by rw [Finset.mem_singleton.mp hp, L_tc]; exact Finset.mem_singleton_self _)
    (fun g u hg => by
      obtain ⟨x, hx, rfl, rfl⟩ := tallyL_pos hg
      obtain ⟨h1, h2, h3⟩ := h x hx
      unfold L; rw [if_pos h1, h2]; exact Finset.mem_singleton_self _)
    (fun p hp => by rw [Finset.mem_singleton.mp hp]; exact le_refl _)
    (fun g u hg => by
      obtain ⟨x, hx, rfl, rfl⟩ := tallyL_pos hg
      exact (h x hx).2.2)

theorem above_bar (n : ℕ) (h : n < 1) (c : Dev nD) : ∀ x ∈ payBar c, Above n x := fun x hx => by
  simp only [payBar, List.mem_cons, List.not_mem_nil, or_false] at hx
  rcases hx with rfl | rfl | rfl <;> exact ⟨rfl, rfl, h⟩
theorem above_dma1 (n : ℕ) (h : n < 2) (c : Dev nD) : ∀ x ∈ payDma 1 c, Above n x := fun x hx => by
  obtain ⟨y, -, rfl⟩ := List.mem_map.mp hx
  exact ⟨rfl, rfl, lt_of_lt_of_eq h (by
    clear hx
    show 2 = lvS (.dma (dsem (dix 1 y.1 y.2)))
    revert y; decide)⟩
theorem above_dma3 (n : ℕ) (h : n < 3) (c : Dev nD) : ∀ x ∈ payDma 3 c, Above n x := fun x hx => by
  obtain ⟨y, -, rfl⟩ := List.mem_map.mp hx
  exact ⟨rfl, rfl, lt_of_lt_of_eq h (by
    clear hx
    show 3 = lvS (.dma (dsem (dix 3 y.1 y.2)))
    revert y; decide)⟩

end Cert.AllReduce

end
-- ==== Proof.Steps.lean ====
/-
# One rule per kind of step: a barrier signal, a copy to another device, a wait
-/
module

public import proofs.«01_k».proof.Proof.Sched

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A cell is in the protocol: its invariant stands at some name, and round 0 is reached. -/
def cellOk (g : GSem nD τ sig) : sProp 𝕄 := iprop(∃ κ : ℕ, cellInv ER (Rd m) κ g ∗ reached ER g 0)
instance cellOk_persistent (g) : BI.Persistent (cellOk (F := F) m g) := by unfold cellOk; infer_instance

/-- What every device knows: all cells are in the protocol; the levels. -/
def records : sProp 𝕄 :=
  iprop((bigSep Finset.univ fun ck : Dev nD × Option (Fin 24) => cellOk m (kcell ck)) ∗ levAts L lv)
instance records_persistent : BI.Persistent (records (F := F) m) := by unfold records; infer_instance

theorem records_cell (ck : Dev nD × Option (Fin 24)) : records m ⊢ cellOk m (kcell ck) := by
  unfold records
  iintro ⟨#H, -⟩
  iapply (show (bigSep Finset.univ fun ck : Dev nD × Option (Fin 24) => cellOk m (kcell ck)) ⊢ cellOk m (kcell ck) from
    bigSep_elim (Finset.mem_univ ck))
  iexact H
theorem records_lev : records (F := F) m ⊢ levAts L lv := by
  unfold records; iintro ⟨-, #H⟩; iexact H

/-- What device `c` owes, whatever it has waited on. -/
def ow (c : Dev nD) (O : CellTallies nD τ sig ℕ) : sProp 𝕄 := iprop(∃ W, owes (c : Thread nD τ) O W)

/-- The right to wait on own cell `a`: the position and the credit. -/
def tick (c : Dev nD) (a : Fin 24) : sProp 𝕄 :=
  iprop(atPos ER (dmaCell c a) 0 ∅ 0 ∗ cred (tallyAt (dmaCell c a) 0 N))

/-- Every copy of a half group is worth the same credit. -/
theorem credit_eq (v : Memref sig .tc .vmem S64x256 .bf16) : v.view.dmaCredit = N := rfl

section Rules

/-- A wait on one of the kernel's own cells, all the dues at higher levels: its landing comes, and the counter is back at zero. -/
theorem wp_wait_dma (c : Dev nD) (a : Fin 24) {q : DmaSem sig} (hq : q = dsem a) (l : List (Pay nD τ sig))
    {α : Type} {Q : α → sProp 𝕄} {k : PUnit → Prog (TpuEff nD τ sig (Elt F) Λ₀ .tc) α}
    (hl : ∀ x ∈ l, Above (lvS (.dma (dsem a))) x)
    {src dst : Memref sig .tc .vmem S64x256 .bf16} {hsrc : src.view.WordExact} {hdst : dst.view.WordExact} :
    iprop(records m ∗ tick c a ∗ ow c (tallyL l))
      ⊢ iprop(((ow c (tallyL l) ∗ semVal (dmaCell c a) 0 ∗ dmaPay m c a)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hN : dst.view.dmaCredit = N := credit_eq dst
  unfold tick ow
  iintro ⟨#HR, ⟨Hat, Hcr⟩, ⟨%W, HO⟩⟩ Hk
  ihave #Hc := (records_cell m (c, some a)) $$ HR
  unfold cellOk
  icases Hc with ⟨%κ, #HI, #Hr⟩
  ihave #Hlev := (records_lev m) $$ HR
  iapply (Rounds.wp_wait_rest_token 𝒱₀ ER (Rd m) (c : Thread nD τ) none (κ := κ)
      (wpE_waitDma2_eq 𝒱₀ (c : Thread nD τ) none Set.univ) (Set.mem_univ _) 0 (O := tallyL l) (W := W) (R := 0) (m := 0) (T := ∅)
      (by rw [Nat.zero_add, hN]; exact (expect_dma m c a).symm)) $$ [Hcr HO Hat]
  · isplitr; · iexact HI
    isplitl [Hcr]; · rw [hN]; iexact Hcr
    isplitl [HO]; · iexact HO
    isplitr; · iapply (mayWait c (.dma (dsem a)) l hl); iexact Hlev
    iexact Hat
  iintro ⟨HO, Hat, -, Hpay⟩
  ihave Hp := (Entails.of_eq (rest_dma m c a)) $$ Hpay
  imod (Rounds.cell_close ER (Rd m) (Set.mem_univ κ) (fun h => h) (R := 0 + 1) (duties_later m (dmaCell c a))) $$ [Hat] with Hz
  · isplitr; · iexact HI
    iexact Hat
  iapply Hk
  isplitl [HO]; · iexists _; iexact HO
  isplitl [Hz]; · iexact Hz
  iexact Hp

/-- The wait for three units on the barrier: the three payers' buffers come, and the counter is back at zero. -/
theorem wp_wait_bar (c : Dev nD) {q : Sem sig} (hq : q = barS) (l : List (Pay nD τ sig)) (hl : ∀ x ∈ l, Above 1 x)
    {α : Type} {Q : α → sProp 𝕄} {k : PUnit → Prog (TpuEff nD τ sig (Elt F) Λ₀ .tc) α} :
    iprop(records m ∗ atPos ER (barCell c) 0 ∅ 0 ∗ cred (tallyAt (barCell c) 0 3) ∗ ow c (tallyL l))
      ⊢ iprop(((ow c (tallyL l) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q 3) k) Q) := by
  subst hq
  unfold ow
  iintro ⟨#HR, Hat, Hcr, ⟨%W, HO⟩⟩ Hk
  ihave #Hc := (records_cell m (c, none)) $$ HR
  unfold cellOk
  icases Hc with ⟨%κ, #HI, #Hr⟩
  ihave #Hlev := (records_lev m) $$ HR
  iapply (Rounds.wp_wait_rest_token 𝒱₀ ER (Rd m) (c : Thread nD τ) none (κ := κ)
      (wpE_semWait_eq 𝒱₀ (c : Thread nD τ) none Set.univ) (Set.mem_univ _) 0 (O := tallyL l) (W := W) (R := 0) (m := 0) (T := ∅)
      (by rw [Nat.zero_add]; exact (expect_bar m c).symm)) $$ [Hcr HO Hat]
  · isplitr; · iexact HI
    isplitl [Hcr]; · iexact Hcr
    isplitl [HO]; · iexact HO
    isplitr; · iapply (mayWait c (.reg barS) l hl); iexact Hlev
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A unit on the barrier of the device `j + 1` places before: its duty `j`, handing over this device's buffers. -/
theorem wp_signal_bar (c n : Dev nD) (j : Fin 3) (hn : n = pr c j) {q : Sem sig} (hq : q = barS) {u : ℕ} (hu : u = 1)
    {α : Type} {Q : α → sProp 𝕄} {k : PUnit → Prog (TpuEff nD τ sig (Elt F) Λ₀ .tc) α}
    (l : List (Pay nD τ sig)) (f : S3x2x64x256.Idx → Elt F .bf16) (g : S512x256.Idx → Elt F .bf16) :
    iprop(records m ∗ dutyTok ER (barCell (pr c j)) 0 j ∗ ow c (tallyL ((barCell (pr c j), 0, 1) :: l))
        ∗ landB c j 0 f ∗ landB c j 1 f ∗ outB c (pr c j) 0 fullShare g ∗ outB c (pr c j) 1 fullShare g)
      ⊢ iprop((ow c (tallyL l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) q u) k) Q) := by
  subst hn hq hu
  unfold ow
  iintro ⟨#HR, Htok, ⟨%W, HO⟩, H0, H1, G0, G1⟩ Hk
  ihave #Hc := (records_cell m (pr c j, none)) $$ HR
  unfold cellOk
  icases Hc with ⟨%κ, #HI, #Hr⟩
  iapply (Rounds.wp_signal 𝒱₀ ER (Rd m) (c : Thread nD τ) none (dst := (pr c j : Thread nD τ)) (κ := κ)
      (d := j) (by rw [duties_bar]; exact Finset.mem_univ _) (amount_bar m (pr c j) j) 0 (tallyL l)
      (show tallyL ((barCell (pr c j), 0, 1) :: l) = tallyL l + tallyAt (barCell (pr c j)) 0 1 from add_comm _ _)) $$ [HO Htok H0 H1 G0 G1]
  · isplitr; · iexact HI
    isplitl [HO]; · iexact HO
    isplitl [Htok]; · iexact Htok
    isplitl [H0 H1 G0 G1]
    · rw [payload_bar]; unfold barPay; rw [nx_pr]
      isplitl [H0]; · iexists f; iexact H0
      isplitl [H1]; · iexists f; iexact H1
      isplitl [G0] <;> (iexists g; iassumption)
    iexact Hr
  iintro HO
  iapply Hk
  iexists _; iexact HO

/-- A copy to device `nx c j`, in general: the source comes back with cell `a`, the landing goes with cell `b` there. -/
theorem wp_copy (c n : Dev nD) (j : Fin 3) (hn : n = nx c j) (a b : Fin 24) {qs qr : DmaSem sig} (hqs : qs = dsem a) (hqr : qr = dsem b)
    {α : Type} {Q : α → sProp 𝕄} {k : PUnit → Prog (TpuEff nD τ sig (Elt F) Λ₀ .tc) α}
    {src dst : Memref sig .tc .vmem S64x256 .bf16} (hN : dst.view.dmaCredit = N)
    {hsc : dst.view.ref.isScScratch = false} {hsrc : src.view.WordExact} {hdst : dst.view.WordExact}
    {hsem : DmaTarget.Typed .vmem (.dma qr) (.remote (Dev.tc n : Thread nD τ) dst (.dma qs) hsc)}
    (q : PosShare TreeShare) (fs : Buf (Elt F) (src.view.loc (c : Thread nD τ)))
    (hsrcPay : (src.view.loc (c : Thread nD τ) ↦[src.view.set]{q} fs : sProp 𝕄) ⊢ dmaPay m c a)
    (fd : Buf (Elt F) (dst.view.loc (nx c j : Thread nD τ)))
    (hdstPay : (dst.view.loc (nx c j : Thread nD τ) ↦[dst.view.set]{fullShare}
        (dst.view.write (Elt F) fd (src.view.read (Elt F) fs) Finset.univ) : sProp 𝕄) ⊢ dmaPay m (nx c j) b)
    (l : List (Pay nD τ sig)) :
    iprop(records m ∗ (src.view.loc (c : Thread nD τ) ↦[src.view.set]{q} fs) ∗ (dst.view.loc (nx c j : Thread nD τ) ↦[dst.view.set]{fullShare} fd)
        ∗ dutyTok ER (dmaCell c a) 0 0 ∗ dutyTok ER (dmaCell (nx c j) b) 0 0 ∗ atPos ER (dmaCell c a) 0 ∅ 0
        ∗ ow c (tallyL ((dmaCell (nx c j) b, 0, N) :: l)))
      ⊢ iprop(((tick c a ∗ ow c (tallyL l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hqs hqr
  unfold ow tick
  iintro ⟨#HR, Hsrc, Hdst, Htok, Htok', Hat, ⟨%W, HO⟩⟩ Hk
  ihave #Hc := (records_cell m (c, some a)) $$ HR
  ihave #Hc' := (records_cell m (nx c j, some b)) $$ HR
  unfold cellOk
  icases Hc with ⟨%κ, #HI, #Hr⟩
  icases Hc' with ⟨%κ', #HI', #Hr'⟩
  iapply (Rounds.wp_send_pointsTo 𝒱₀ ER (Rd m) (c : Thread nD τ) none (κ₁ := κ) (κ₂ := κ')
      (r₁ := 0) (r₂ := 0) (d₁ := 0) (d₂ := 0) (fd := fd)
      (by rw [duties_dma]; exact Finset.mem_singleton_self _) (by rw [duties_dma]; exact Finset.mem_singleton_self _)
      0 0 N (show dst.view.amount (.dma (dsem b)) = N from hN) (amount_dma m c a 0) (amount_dma m (nx c j) b 0) (tallyL l)
      (show tallyL ((dmaCell (nx c j) b, 0, N) :: l) = tallyL l + tallyAt (dmaCell (nx c j) b) 0 N from add_comm _ _) (W := W)
      (by rw [payload_dma]; exact hsrcPay) (by rw [payload_dma]; exact hdstPay)) $$ [Hsrc Hdst Htok Htok' HO]
  · isplitr; · iexact HI
    isplitr; · iexact HI'
    isplitl [Hsrc]; · iexact Hsrc
    isplitl [Hdst]; · iexact Hdst
    isplitl [HO]; · iexact HO
    isplitl [Htok]; · iexact Htok
    isplitr; · iexact Hr
    isplitl [Htok']; · iexact Htok'
    iexact Hr'
  iintro ⟨Hcr, HO⟩
  iapply Hk
  isplitl [Hat Hcr]
  · isplitl [Hat] <;> iassumption
  iexists _; iexact HO

end Rules

end Cert.AllReduce

end
-- ==== Proof.Copies.lean ====
/-
# The copies, loads and stores of the kernel at their blocks
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Views of the blocks -/

abbrev rowS (p : Fin 4) (h : Fin 2) : Memref sig .tc .vmem S64x256 .bf16 := sM.slice (rowR p h) (fun _ => rfl)
abbrev rowO (p : Fin 4) (h : Fin 2) : Memref sig .tc .vmem S64x256 .bf16 := oM.slice (rowR p h) (fun _ => rfl)
abbrev slotM (j : Fin 3) (h : Fin 2) : Memref sig .tc .vmem S64x256 .bf16 :=
  (rM.slice (slotR j h) (fun _ => rfl)).squeeze S64x256 squeezes_S1x1x64x256_S64x256

theorem set_rowS (p : Fin 4) (h : Fin 2) : (rowS p h).view.set = rset p h := (rowR p h).map_emb_univ
theorem set_rowO (p : Fin 4) (h : Fin 2) : (rowO p h).view.set = rset p h := (rowR p h).map_emb_univ
theorem set_slotM (j : Fin 3) (h : Fin 2) : (slotM j h).view.set = cset j h := by
  have e : (slotM j h).view.set = (rM.slice (slotR j h) (fun _ => rfl) : Memref sig .tc .vmem S1x1x64x256 .bf16).view.set :=
    View.set_reshape _ _
  rw [e]; exact (slotR j h).map_emb_univ

/-- Contents written through a view are, on the view's elements, any contents the view reads the same of. -/
theorem write_eq_of_read {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  have h1 : v.read (Elt F) (v.write (Elt F) f w Finset.univ) x = v.read (Elt F) g x := by rw [View.read_write_univ, h]
  rw [View.read_apply, View.read_apply] at h1
  exact cast_inj _ |>.mp h1

theorem read_rowS (p : Fin 4) (h : Fin 2) (f : S512x256.Idx → Elt F .bf16) :
    (rowS p h).view.read (Elt F) f = fun x => f (rowAt p h x) := rfl
theorem read_rowO (p : Fin 4) (h : Fin 2) (f : S512x256.Idx → Elt F .bf16) :
    (rowO p h).view.read (Elt F) f = fun x => f (rowAt p h x) := rfl
/-- The landing slot `(j, h)` of the device `j + 1` places on reads as the block copied there. -/
theorem read_slotM (c : Dev nD) (j : Fin 3) (h : Fin 2) :
    (slotM j h).view.read (Elt F) (landF m (nx c j)) = (rowS (nx c j) h).view.read (Elt F) (srcF m c) := by
  rw [read_rowS]
  funext x
  show landF m (nx c j) (slotAt j h (Shape.reshapeEquiv _ x)) = _
  rw [landF_slotAt, pr_nx, reshape_drop2]

/-- What a copy needs beside its two ends: the duty tokens of both and the position at its own send cell. -/
def sendTok (c : Dev nD) (j : Fin 3) (a b : Fin 24) : sProp 𝕄 :=
  iprop(dutyTok ER (dmaCell c a) 0 0 ∗ dutyTok ER (dmaCell (nx c j) b) 0 0 ∗ atPos ER (dmaCell c a) 0 ∅ 0)

/-! ## The copies -/

/-- The copy of half `h` of group `nx c j` to that device's landing slot `(j, h)`. -/
theorem wp_copy_in (c n : Dev nD) (j : Fin 3) (h : Fin 2) (hn : n = nx c j)
    {α : Type} {Q : α → sProp 𝕄} {k : PUnit → Prog (TpuEff nD τ sig (Elt F) Λ₀ .tc) α}
    {qs qr : DmaSem sig} (hqs : qs = dsem (dix 0 j h)) (hqr : qr = dsem (dix 1 j h))
    {off : Fin 2 → ℕ} (hoff : off = ![128 * (nx c j).val + 64 * h.val, 0]) {hin : ∀ a, off a + S64x256.size a ≤ S512x256.size a}
    {off4 : Fin 4 → ℕ} (hoff4 : off4 = ![j.val, h.val, 0, 0]) {hin4 : ∀ a, off4 a + S1x1x64x256.size a ≤ S3x2x64x256.size a}
    {hsc : ((rM.slice (Rect.unit off4 S1x1x64x256.size hin4) (fun _ => rfl)).squeeze S64x256 squeezes_S1x1x64x256_S64x256
      : Memref sig .tc .vmem S64x256 .bf16).view.ref.isScScratch = false}
    {hsrc : (sM.slice (Rect.unit off S64x256.size hin) (fun _ => rfl) : Memref sig .tc .vmem S64x256 .bf16).view.WordExact}
    {hdst : ((rM.slice (Rect.unit off4 S1x1x64x256.size hin4) (fun _ => rfl)).squeeze S64x256 squeezes_S1x1x64x256_S64x256
      : Memref sig .tc .vmem S64x256 .bf16).view.WordExact}
    {hsem : DmaTarget.Typed .vmem (.dma qr) (.remote (Dev.tc n : Thread nD τ)
      ((rM.slice (Rect.unit off4 S1x1x64x256.size hin4) (fun _ => rfl)).squeeze S64x256 squeezes_S1x1x64x256_S64x256
        : Memref sig .tc .vmem S64x256 .bf16) (.dma qs) hsc)}
    (l : List (Pay nD τ sig)) :
    iprop(records m ∗ srcB m c (nx c j) h ∗ (∃ f, landB (nx c j) j h f) ∗ sendTok c j (dix 0 j h) (dix 1 j h)
        ∗ ow c (tallyL ((dmaCell (nx c j) (dix 1 j h), 0, N) :: l)))
      ⊢ iprop(((tick c (dix 0 j h) ∗ ow c (tallyL l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM.slice (Rect.unit off S64x256.size hin) (fun _ => rfl) : Memref sig .tc .vmem S64x256 .bf16)
                (.remote (Dev.tc n : Thread nD τ)
                  ((rM.slice (Rect.unit off4 S1x1x64x256.size hin4) (fun _ => rfl)).squeeze S64x256 squeezes_S1x1x64x256_S64x256
                    : Memref sig .tc .vmem S64x256 .bf16) (.dma qs) hsc) (.dma qr) hsrc hdst hsem) k) Q) := by
  subst hoff hoff4
  unfold sendTok
  iintro ⟨#HR, Hsrc, ⟨%fd, Hdst⟩, ⟨Ht, Ht', Hat⟩, HO⟩ Hk
  iapply (wp_copy m c n j hn (dix 0 j h) (dix 1 j h) hqs hqr (src := rowS (nx c j) h) (dst := slotM j h) rfl fullShare (srcF m c)
    (by rw [dmaPay_0, set_rowS]; exact BI.Entails.refl _) fd
    (by
      rw [dmaPay_1]
      refine (Entails.of_eq (pointsTo_congr (write_eq_of_read (slotM j h).view fd (landF m (nx c j)) _ (read_slotM m c j h)))).trans ?_
      rw [set_slotM]; exact BI.Entails.refl _) l) $$ [Hsrc Hdst Ht Ht' Hat HO]
  · isplitr; · iexact HR
    isplitl [Hsrc]; · unfold srcB; rw [set_rowS]; iexact Hsrc
    isplitl [Hdst]; · unfold landB; rw [set_slotM]; iexact Hdst
    isplitl [Ht]; · iexact Ht
    isplitl [Ht']; · iexact Ht'
    isplitl [Hat] <;> iassumption
  iexact Hk

/-- The copy of device `c`'s product of half `h`, at one of its read shares, into the same rows of the device `nx c j`. -/
theorem wp_copy_out (c n : Dev nD) (j : Fin 3) (h : Fin 2) (hn : n = nx c j)
    {α : Type} {Q : α → sProp 𝕄} {k : PUnit → Prog (TpuEff nD τ sig (Elt F) Λ₀ .tc) α}
    {qs qr : DmaSem sig} (hqs : qs = dsem (dix 2 j h)) (hqr : qr = dsem (dix 3 j h))
    {off : Fin 2 → ℕ} (hoff : off = ![128 * c.val + 64 * h.val, 0]) {hin : ∀ a, off a + S64x256.size a ≤ S512x256.size a}
    {hsc : (oM.slice (Rect.unit off S64x256.size hin) (fun _ => rfl) : Memref sig .tc .vmem S64x256 .bf16).view.ref.isScScratch = false}
    {hsrc hdst : (oM.slice (Rect.unit off S64x256.size hin) (fun _ => rfl) : Memref sig .tc .vmem S64x256 .bf16).view.WordExact}
    {hsem : DmaTarget.Typed .vmem (.dma qr) (.remote (Dev.tc n : Thread nD τ)
      (oM.slice (Rect.unit off S64x256.size hin) (fun _ => rfl) : Memref sig .tc .vmem S64x256 .bf16) (.dma qs) hsc)}
    (l : List (Pay nD τ sig)) :
    iprop(records m ∗ outB c c h (sh j) (outF m) ∗ (∃ f, outB (nx c j) c h fullShare f) ∗ sendTok c j (dix 2 j h) (dix 3 j h)
        ∗ ow c (tallyL ((dmaCell (nx c j) (dix 3 j h), 0, N) :: l)))
      ⊢ iprop(((tick c (dix 2 j h) ∗ ow c (tallyL l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit off S64x256.size hin) (fun _ => rfl) : Memref sig .tc .vmem S64x256 .bf16)
                (.remote (Dev.tc n : Thread nD τ)
                  (oM.slice (Rect.unit off S64x256.size hin) (fun _ => rfl) : Memref sig .tc .vmem S64x256 .bf16) (.dma qs) hsc)
                (.dma qr) hsrc hdst hsem) k) Q) := by
  subst hoff
  unfold sendTok
  iintro ⟨#HR, Hsrc, ⟨%fd, Hdst⟩, ⟨Ht, Ht', Hat⟩, HO⟩ Hk
  iapply (wp_copy m c n j hn (dix 2 j h) (dix 3 j h) hqs hqr (src := rowO c h) (dst := rowO c h) rfl (sh j) (outF m)
    (by rw [dmaPay_2, set_rowO]; exact BI.Entails.refl _) fd
    (by
      rw [dmaPay_3, pr_nx]
      refine (Entails.of_eq (pointsTo_congr (write_eq_of_read (rowO c h).view fd (outF m) _ rfl))).trans ?_
      rw [set_rowO]; exact BI.Entails.refl _) l) $$ [Hsrc Hdst Ht Ht' Hat HO]
  · isplitr; · iexact HR
    isplitl [Hsrc]; · unfold outB; rw [set_rowO]; iexact Hsrc
    isplitl [Hdst]; · unfold outB; rw [set_rowO]; iexact Hdst
    isplitl [Ht]; · iexact Ht
    isplitl [Ht']; · iexact Ht'
    isplitl [Hat] <;> iassumption
  iexact Hk

/-! ## Loads and stores -/

/-- The load of a device's own rows of half `h` from its staged partial array. -/
theorem wp_load_own (c : Dev nD) (h : Fin 2) {α : Type} {Q : α → sProp 𝕄} {off : Fin 2 → ℕ} (hoff : off = ![128 * c.val + 64 * h.val, 0])
    {hin : ∀ a, off a + S64x256.size a ≤ S512x256.size a} {hl : tM.view.LoadsAt (Rect.unit (s := S512x256) off S64x256.size hin).toLoadRect}
    {k : (S64x256.Idx → Elt F .bf16) → Prog (TpuEff nD τ sig (Elt F) Λ₀ .tc) α} :
    (((c : Thread nD τ).loc cc0_stg0_0) ↦{fullShare} xstg m c : sProp 𝕄)
      ⊢ iprop(((((c : Thread nD τ).loc cc0_stg0_0) ↦{fullShare} xstg m c)
            -∗ wp frame (wpE (defs₀ (F := F)) 𝒱₀ (c : Thread nD τ) none) Set.univ (k (ownV m c h)) Q)
          -∗ wp frame (wpE (defs₀ (F := F)) 𝒱₀ (c : Thread nD τ) none) Set.univ
            (.op (.load tM (Rect.unit (s := S512x256) off S64x256.size hin).toLoadRect hl) k) Q) := by
  subst hoff
  have hS : tM.view.setOn (rowR c h).toLoadRect.set ⊆ (Finset.univ : Finset S512x256.Idx) := Finset.subset_univ _
  exact wp_load 𝒱₀ (c : Thread nD τ) none Set.univ (m := tM) hS

/-- The load of landing slot `(j, h)` once its copy has landed. -/
theorem wp_load_land (c : Dev nD) (j : Fin 3) (h : Fin 2) {α : Type} {Q : α → sProp 𝕄} {off : Fin 4 → ℕ} (hoff : off = ![j.val, h.val, 0, 0])
    {hin : ∀ a, off a + S1x1x64x256.size a ≤ S3x2x64x256.size a} {hl : rM.view.LoadsAt (Rect.unit (s := S3x2x64x256) off S1x1x64x256.size hin).toLoadRect}
    {k : (S1x1x64x256.Idx → Elt F .bf16) → Prog (TpuEff nD τ sig (Elt F) Λ₀ .tc) α} :
    (landB c j h (landF m c) : sProp 𝕄)
      ⊢ iprop((landB c j h (landF m c) -∗ wp frame (wpE (defs₀ (F := F)) 𝒱₀ (c : Thread nD τ) none) Set.univ (k (landV m c j h)) Q)
          -∗ wp frame (wpE (defs₀ (F := F)) 𝒱₀ (c : Thread nD τ) none) Set.univ
            (.op (.load rM (Rect.unit (s := S3x2x64x256) off S1x1x64x256.size hin).toLoadRect hl) k) Q) := by
  subst hoff
  have hS : rM.view.setOn (slotR j h).toLoadRect.set ⊆ cset j h := (Finset.map_refl (s := cset j h)).le
  exact wp_load 𝒱₀ (c : Thread nD τ) none Set.univ (m := rM) hS

/-- A load of a device's own result rows, whatever it reads. -/
theorem wp_load_res (c : Dev nD) (h : Fin 2) (f : S512x256.Idx → Elt F .bf16) {α : Type} {Q : α → sProp 𝕄} {off : Fin 2 → ℕ}
    (hoff : off = ![128 * c.val + 64 * h.val, 0])
    {hin : ∀ a, off a + S64x256.size a ≤ S512x256.size a} {hl : oM.view.LoadsAt (Rect.unit (s := S512x256) off S64x256.size hin).toLoadRect}
    {k : (S64x256.Idx → Elt F .bf16) → Prog (TpuEff nD τ sig (Elt F) Λ₀ .tc) α} :
    (outB c c h fullShare f : sProp 𝕄)
      ⊢ iprop((outB c c h fullShare f -∗ wp frame (wpE (defs₀ (F := F)) 𝒱₀ (c : Thread nD τ) none) Set.univ (k (fun x => f (rowAt c h x))) Q)
          -∗ wp frame (wpE (defs₀ (F := F)) 𝒱₀ (c : Thread nD τ) none) Set.univ
            (.op (.load oM (Rect.unit (s := S512x256) off S64x256.size hin).toLoadRect hl) k) Q) := by
  subst hoff
  have hS : oM.view.setOn (rowR c h).toLoadRect.set ⊆ rset c h := (Finset.map_refl (s := rset c h)).le
  exact wp_load 𝒱₀ (c : Thread nD τ) none Set.univ (m := oM) hS

/-- The store of the product into a device's own result rows. -/
theorem wp_store_res (c : Dev nD) (h : Fin 2) (f : S512x256.Idx → Elt F .bf16) {α : Type} {Q : α → sProp 𝕄} {off : Fin 2 → ℕ}
    (hoff : off = ![128 * c.val + 64 * h.val, 0])
    {hin : ∀ a, off a + S64x256.size a ≤ S512x256.size a} {w : S64x256.Idx → Elt F .bf16} (hw : w = prodV m c h)
    {hx : (oM.access (Rect.unit off S64x256.size hin)).Stores Finset.univ}
    {hm : Finset.univ = Finset.univ ∨ ∀ a, (Rect.unit (s := S512x256) off S64x256.size hin).stride a = 1}
    {k : PUnit → Prog (TpuEff nD τ sig (Elt F) Λ₀ .tc) α} :
    (outB c c h fullShare f : sProp 𝕄)
      ⊢ iprop((outB c c h fullShare (outF m) -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit off S64x256.size hin) w Finset.univ hx hm) k) Q) := by
  subst hoff hw
  have hread : (rowO c h).view.read (Elt F) (outF m) = prodV m c h := by
    rw [read_rowO]; funext x; exact outF_rowAt m c h x
  have hset : (oM.access (rowR c h)).set = rset c h := set_rowO c h
  iintro H Hk
  iapply (wp_store 𝒱₀ (c : Thread nD τ) none Set.univ (m := oM) (r := rowR c h) (w := prodV m c h) (Mk := Finset.univ) (S := rset c h)
    (f := f) (by rw [View.setOn_univ, hset])) $$ [H]
  · unfold outB; iexact H
  iintro H
  iapply Hk
  unfold outB
  iapply (Entails.of_eq (pointsTo_congr (fun i hi => write_eq_of_read (rowO c h).view f (outF m) (prodV m c h) hread i (by rw [set_rowO]; exact hi))))
  iexact H

end Cert.AllReduce

end
-- ==== Proof.Blocks.lean ====
/-
# The buffers held block by block, and the places the program names
-/
module

public import proofs.«01_k».proof.Proof.Copies
public import Idealize.ShloMosaic.Lib.SparseCore.ProtocolKit
public import Idealize.ShloMosaic.Lib.Ring

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## One thing for each slot -/

/-- A thing for each of the six slots. -/
def each (Ψ : Fin 3 → Fin 2 → sProp 𝕄) : sProp 𝕄 := iprop(Ψ 0 0 ∗ Ψ 0 1 ∗ Ψ 1 0 ∗ Ψ 1 1 ∗ Ψ 2 0 ∗ Ψ 2 1)

theorem bigSep_slots (Φ : Fin 3 × Fin 2 → sProp 𝕄) : bigSep Finset.univ Φ = each fun j h => Φ (j, h) :=
  bigSep_univ_eq_bigSepL [(0, 0), (0, 1), (1, 0), (1, 1), (2, 0), (2, 1)] (by decide) (by decide) Φ

/-- The eight half groups: device `c`'s own two, and two for each device placed before it; -/
theorem bigSep_rows_pr (c : Dev nD) (Φ : Fin 4 × Fin 2 → sProp 𝕄) :
    bigSep Finset.univ Φ = iprop(Φ (c, 0) ∗ Φ (c, 1) ∗ each fun j h => Φ (pr c j, h)) :=
  bigSep_univ_eq_bigSepL [(c, 0), (c, 1), (pr c 0, 0), (pr c 0, 1), (pr c 1, 0), (pr c 1, 1), (pr c 2, 0), (pr c 2, 1)]
    (by revert c; decide) (by revert c; decide) Φ
/-- or placed after it. -/
theorem bigSep_rows_nx (c : Dev nD) (Φ : Fin 4 × Fin 2 → sProp 𝕄) :
    bigSep Finset.univ Φ = iprop(Φ (c, 0) ∗ Φ (c, 1) ∗ each fun j h => Φ (nx c j, h)) :=
  bigSep_univ_eq_bigSepL [(c, 0), (c, 1), (nx c 0, 0), (nx c 0, 1), (nx c 1, 0), (nx c 1, 1), (nx c 2, 0), (nx c 2, 1)]
    (by revert c; decide) (by revert c; decide) Φ

/-! ## Buffers block by block -/

theorem rset_disjoint (b b' : Fin 4 × Fin 2) (h : b ≠ b') : Disjoint (rset b.1 b.2) (rset b'.1 b'.2) := by
  refine Finset.disjoint_left.mpr fun i hi hi' => h ?_
  rw [mem_rset] at hi hi'
  have h1 := b.2.isLt; have h2 := b'.2.isLt
  exact Prod.ext (Fin.ext (by omega)) (Fin.ext (by omega))
theorem rset_cover : (Finset.univ : Finset (Fin 4 × Fin 2)).biUnion (fun b => rset b.1 b.2) = Finset.univ := by
  refine Finset.eq_univ_iff_forall.mpr fun i => Finset.mem_biUnion.mpr ?_
  have h0 : (i 0).val < 512 := (i 0).isLt
  refine ⟨(⟨(i 0).val / 128, by omega⟩, ⟨(i 0).val / 64 % 2, by omega⟩), Finset.mem_univ _, mem_rset.mpr ?_⟩
  show (i 0).val / 64 = 2 * ((i 0).val / 128) + (i 0).val / 64 % 2
  omega
theorem cset_disjoint (b b' : Fin 3 × Fin 2) (h : b ≠ b') : Disjoint (cset b.1 b.2) (cset b'.1 b'.2) := by
  refine Finset.disjoint_left.mpr fun i hi hi' => h ?_
  rw [mem_cset] at hi hi'
  exact Prod.ext (Fin.ext (by omega)) (Fin.ext (by omega))
theorem cset_cover : (Finset.univ : Finset (Fin 3 × Fin 2)).biUnion (fun b => cset b.1 b.2) = Finset.univ := by
  refine Finset.eq_univ_iff_forall.mpr fun i => Finset.mem_biUnion.mpr ?_
  exact ⟨(⟨(i 0).val, (i 0).isLt⟩, ⟨(i 1).val, (i 1).isLt⟩), Finset.mem_univ _, mem_cset.mpr ⟨rfl, rfl⟩⟩

/-- The copy source is device `c`'s own half groups and those of the devices it copies to; -/
theorem src_eq (c : Dev nD) : (((c : Thread nD τ).loc cc0_scratch0) ↦{fullShare} srcF m c : sProp 𝕄)
    = iprop(srcB m c c 0 ∗ srcB m c c 1 ∗ each fun j h => srcB m c (nx c j) h) :=
  (Ring.pointsTo_blocks (ℓ := (c : Thread nD τ).loc cc0_scratch0) (fun b : Fin 4 × Fin 2 => rset b.1 b.2) rset_disjoint rset_cover (srcF m c)).trans
    (bigSep_rows_nx c _)
/-- the landing buffer its six slots; -/
theorem land_eq (c : Dev nD) (f : S3x2x64x256.Idx → Elt F .bf16) : (((c : Thread nD τ).loc cc0_scratch1) ↦{fullShare} f : sProp 𝕄)
    = each fun j h => landB c j h f :=
  (Ring.pointsTo_blocks (ℓ := (c : Thread nD τ).loc cc0_scratch1) (fun b : Fin 3 × Fin 2 => cset b.1 b.2) cset_disjoint cset_cover f).trans
    (bigSep_slots _)
/-- the result buffer its own half groups and those of the devices that send theirs. -/
theorem out_eq (c : Dev nD) (f : S512x256.Idx → Elt F .bf16) : (((c : Thread nD τ).loc cc0_stg2_0) ↦{fullShare} f : sProp 𝕄)
    = iprop(outB c c 0 fullShare f ∗ outB c c 1 fullShare f ∗ each fun j h => outB c (pr c j) h fullShare f) :=
  (Ring.pointsTo_blocks (ℓ := (c : Thread nD τ).loc cc0_stg2_0) (fun b : Fin 4 × Fin 2 => rset b.1 b.2) rset_disjoint rset_cover f).trans
    (bigSep_rows_pr c _)

theorem share_halves (q : PosShare TreeShare) : q ∈ PCS.op q.left q.right := by rw [PosShare.left_op_right]; exact Part.mem_some _

/-- A half group of the result at the three read shares its copies go out with; -/
theorem out_shares (c : Dev nD) (p : Fin 4) (h : Fin 2) (f : S512x256.Idx → Elt F .bf16) :
    (outB c p h fullShare f : sProp 𝕄) ⊢ iprop(outB c p h (sh 0) f ∗ outB c p h (sh 1) f ∗ outB c p h (sh 2) f) := by
  unfold outB
  exact (pointsTo_share (share_halves fullShare)).1.trans
    (sep_mono_r (pointsTo_share (share_halves fullShare.right)).1)
/-- and whole again. -/
theorem out_unshare (c : Dev nD) (p : Fin 4) (h : Fin 2) (f : S512x256.Idx → Elt F .bf16) :
    iprop(outB c p h (sh 0) f ∗ outB c p h (sh 1) f ∗ outB c p h (sh 2) f) ⊢ (outB c p h fullShare f : sProp 𝕄) := by
  unfold outB
  exact (sep_mono_r (pointsTo_share (share_halves fullShare.right)).2).trans
    (pointsTo_share (share_halves fullShare)).2

/-! ## The places the program names -/

theorem dev1_eq (c : Dev nD) : (⟨k0_dev1 c, k0_dev1_lt c⟩ : Dev nD) = pr c 2 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 0 := by revert c; decide +kernel
theorem dev4_eq (c : Dev nD) : (⟨k0_dev4 c, k0_dev4_lt c⟩ : Dev nD) = nx c 1 := by revert c; decide +kernel
theorem dev5_eq (c : Dev nD) : (⟨k0_dev5 c, k0_dev5_lt c⟩ : Dev nD) = nx c 0 := by revert c; decide +kernel
theorem dev6_eq (c : Dev nD) : (⟨k0_dev6 c, k0_dev6_lt c⟩ : Dev nD) = nx c 2 := by revert c; decide +kernel
theorem dev7_eq (c : Dev nD) : (⟨k0_dev7 c, k0_dev7_lt c⟩ : Dev nD) = nx c 1 := by revert c; decide +kernel
theorem dev8_eq (c : Dev nD) : (⟨k0_dev8 c, k0_dev8_lt c⟩ : Dev nD) = nx c 0 := by revert c; decide +kernel
theorem dev9_eq (c : Dev nD) : (⟨k0_dev9 c, k0_dev9_lt c⟩ : Dev nD) = nx c 2 := by revert c; decide +kernel
theorem dev10_eq (c : Dev nD) : (⟨k0_dev10 c, k0_dev10_lt c⟩ : Dev nD) = nx c 1 := by revert c; decide +kernel
theorem dev11_eq (c : Dev nD) : (⟨k0_dev11 c, k0_dev11_lt c⟩ : Dev nD) = nx c 0 := by revert c; decide +kernel
theorem dev12_eq (c : Dev nD) : (⟨k0_dev12 c, k0_dev12_lt c⟩ : Dev nD) = nx c 2 := by revert c; decide +kernel
theorem dev13_eq (c : Dev nD) : (⟨k0_dev13 c, k0_dev13_lt c⟩ : Dev nD) = nx c 1 := by revert c; decide +kernel
theorem dev14_eq (c : Dev nD) : (⟨k0_dev14 c, k0_dev14_lt c⟩ : Dev nD) = nx c 0 := by revert c; decide +kernel
theorem dev15_eq (c : Dev nD) : (⟨k0_dev15 c, k0_dev15_lt c⟩ : Dev nD) = nx c 2 := by revert c; decide +kernel

/-- The rows a copy to the device `j + 1` places on reads, half `h`; -/
theorem off1_eq (c : Dev nD) (j : Fin 3) (h : Fin 2) :
    k0_off1 c (BitVec.ofNat 32 (1 + j.val)) (BitVec.ofNat 32 (64 * h.val)) = ![128 * (nx c j).val + 64 * h.val, 0] := by
  revert c j h; decide +kernel
/-- the rows of the device's own group, as loads and stores name them -/
theorem off2_eq (c : Dev nD) (h : Fin 2) : k0_off2 c (BitVec.ofNat 32 (64 * h.val)) = ![128 * c.val + 64 * h.val, 0] := k0_off2_eq c h
/-- and as copies do. -/
theorem off3_eq (c : Dev nD) (h : Fin 2) : k0_off3 c (BitVec.ofNat 32 (64 * h.val)) = ![128 * c.val + 64 * h.val, 0] := k0_off3_eq c h

theorem hz : (![0, 0] : Fin 2 → ℕ) = fun _ => 0 := funext fun a => by fin_cases a <;> rfl

/-- The whole load of the staged partial array, and of the weights; -/
theorem read_t (f : S512x256.Idx → Elt F .bf16) {hin} :
    tM.view.readAt (Elt F) (Rect.unit (s := S512x256) ![0, 0] S512x256.size hin).toLoadRect f = f :=
  Memref.readAt_unit_zero (Elt F) cc0_stg0_0 hz _ f
theorem read_w (f : S256x256.Idx → Elt F .bf16) {hin} :
    wM.view.readAt (Elt F) (Rect.unit (s := S256x256) ![0, 0] S256x256.size hin).toLoadRect f = f :=
  Memref.readAt_unit_zero (Elt F) cc0_stg1_0 hz _ f
/-- the whole store of the copy source. -/
theorem write_s (f w : S512x256.Idx → Elt F .bf16) {hin} :
    (sM.access (Rect.unit (s := S512x256) ![0, 0] S512x256.size hin)).write (Elt F) f w Finset.univ = w :=
  Memref.write_access_unit_zero_univ (Elt F) cc0_scratch0 hz _ f w

/-- That store, as a step. -/
theorem wp_store_src (c : Dev nD) (f g : S512x256.Idx → Elt F .bf16) {α : Type} {Q : α → sProp 𝕄}
    {hin : ∀ a, (![0, 0] : Fin 2 → ℕ) a + S512x256.size a ≤ S512x256.size a} {w : S512x256.Idx → Elt F .bf16} (hw : w = g)
    {hx : (sM.access (Rect.unit ![0, 0] S512x256.size hin)).Stores Finset.univ}
    {hm : Finset.univ = Finset.univ ∨ ∀ a, (Rect.unit (s := S512x256) ![0, 0] S512x256.size hin).stride a = 1}
    {k : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} g)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store sM (Rect.unit ![0, 0] S512x256.size hin) w Finset.univ hx hm) k) Q) := by
  subst hw
  iintro H Hk
  iapply (wp_store 𝒱₀ (c : Thread nD τ) none Set.univ (m := sM) (r := Rect.unit ![0, 0] S512x256.size hin) (w := w) (Mk := Finset.univ)
    (S := (Finset.univ : Finset S512x256.Idx)) (f := f) (Finset.subset_univ _)) $$ [H]
  · iexact H
  iintro H
  iapply Hk
  rw [write_s]
  iexact H

end Cert.AllReduce

end
-- ==== Proof.Body.lean ====
/-
# The body of the kernel on one device, run once at a symbolic device
-/
module

public import proofs.«01_k».proof.Proof.Blocks
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Before and after -/

/-- The tokens and credits device `c` starts with. -/
def start (c : Dev nD) : sProp 𝕄 :=
  iprop(atPos ER (barCell c) 0 ∅ 0 ∗ cred (tallyAt (barCell c) 0 3)
    ∗ (dutyTok ER (barCell (pr c 0)) 0 0 ∗ dutyTok ER (barCell (pr c 1)) 0 1 ∗ dutyTok ER (barCell (pr c 2)) 0 2)
    ∗ each (fun j h => sendTok c j (dix 0 j h) (dix 1 j h)) ∗ each (fun j h => sendTok c j (dix 2 j h) (dix 3 j h))
    ∗ each (fun j h => tick c (dix 1 j h)) ∗ each (fun j h => tick c (dix 3 j h)))

/-- The two scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The kernel's own semaphores at zero, kind by kind. -/
def zeros (c : Dev nD) : sProp 𝕄 :=
  iprop(each (fun j h => semVal (dmaCell c (dix 0 j h)) 0) ∗ each (fun j h => semVal (dmaCell c (dix 1 j h)) 0)
    ∗ each (fun j h => semVal (dmaCell c (dix 2 j h)) 0) ∗ each (fun j h => semVal (dmaCell c (dix 3 j h)) 0))

/-- What the body starts from, beside its windows; -/
def Φ₀ (c : Dev nD) : sProp 𝕄 := iprop((records m ∗ start c) ∗ scratch c)
/-- and what it leaves: the scratch buffers, and every semaphore at zero. -/
def Φ₁ (c : Dev nD) : sProp 𝕄 := iprop(scratch c ∗ zeros c ∗ semVal (barCell c) 0)

/-- The pipeline's data: the inputs stay as staged, the result is `outF`; the dues are paid at the one point. -/
def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => outF m
  Φ t := match t with
    | ⟨0, _⟩ => Φ₀ m c
    | ⟨_ + 1, _⟩ => Φ₁ c
  q _ := fullShare
  owed t := match t with
    | ⟨0, _⟩ => tallyL (dues c)
    | ⟨_ + 1, _⟩ => 0

/-- Buffer `b` of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ ow c (tallyL (dues c)) ∗ (((c : Thread nD τ).loc cc0_stg0_0) ↦{fullShare} xstg m c)
    ∗ (((c : Thread nD τ).loc cc0_stg1_0) ↦{fullShare} wstg m c)
    ∗ (∃ f : Buf (Elt F) ((c : Thread nD τ).loc cc0_stg2_0), ((c : Thread nD τ).loc cc0_stg2_0) ↦{fullShare} f))

def bodyPost (c : Dev nD) : sProp 𝕄 :=
  iprop(Φ₁ c ∗ ow c 0 ∗ (((c : Thread nD τ).loc cc0_stg0_0) ↦{fullShare} xstg m c)
    ∗ (((c : Thread nD τ).loc cc0_stg1_0) ↦{fullShare} wstg m c)
    ∗ (((c : Thread nD τ).loc cc0_stg2_0) ↦{fullShare} outF m))

/-- What is owed at the barrier wait lies above it. -/
theorem above_landings (c : Dev nD) : ∀ x ∈ payDma 1 c ++ payDma 3 c, Above 1 x := fun x hx =>
  (List.mem_append.mp hx).elim (above_dma1 1 (by decide) c x) (above_dma3 1 (by decide) c x)

/-- The landings of the second phase still owed when half `h` is waited for; -/
def payLeft (c : Dev nD) : Fin 2 → List (Pay nD τ sig) | 0 => payDma 3 c | 1 => (payDma 3 c).drop 3
/-- they lie above those waits. -/
theorem above_left (c : Dev nD) (h : Fin 2) : ∀ x ∈ payLeft c h, Above 2 x := by
  match h with
  | 0 => exact above_dma3 2 (by decide) c
  | 1 => exact fun x hx => above_dma3 2 (by decide) c x (List.mem_of_mem_drop hx)

theorem above_nil (n : ℕ) : ∀ x ∈ ([] : List (Pay nD τ sig)), Above n x := fun x hx => absurd hx List.not_mem_nil

set_option maxHeartbeats 4000000 in
/-- The body: one rule per effect, in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt := by
  simp only [cc0_body_eq_skeleton]; unfold cc0_body_skel
  simp only [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre Φ₀ start scratch each
  beta_reduce
  simp only [dues, payBar, payDma, order, List.map_cons, List.map_nil, List.cons_append, List.nil_append]
  iintro ⟨⟨⟨⟨#HR, Bat, Bcr, ⟨T0, T1, T2⟩, ⟨S00, S01, S10, S11, S20, S21⟩, ⟨A00, A01, A10, A11, A20, A21⟩, ⟨R00, R01, R10, R11, R20, R21⟩, ⟨G00, G01, G10, G11, G20, G21⟩⟩, ⟨%fs, Hs⟩, ⟨%fr, Hr⟩⟩, HO, Ht, Hw, ⟨%fo, Ho⟩⟩, Hk⟩
  -- the loads of the inputs, the store of the copy source
  iapply (wp_load 𝒱₀ (c : Thread nD τ) none Set.univ (m := tM) (Finset.subset_univ _)) $$ Ht; iintro Ht
  rw [read_t]
  iapply (wp_load 𝒱₀ (c : Thread nD τ) none Set.univ (m := sM) (Finset.subset_univ _)) $$ Hs; iintro Hs
  iapply (wp_store_src c fs (srcF m c) rfl) $$ Hs; iintro Hs
  iapply (wp_load 𝒱₀ (c : Thread nD τ) none Set.univ (m := wM) (Finset.subset_univ _)) $$ Hw; iintro Hw
  rw [read_w]
  -- the buffers by blocks
  ihave Hs := (Entails.of_eq (src_eq m c)) $$ Hs
  ihave Hr := (Entails.of_eq (land_eq c fr)) $$ Hr
  ihave Ho := (Entails.of_eq (out_eq c fo)) $$ Ho
  unfold each
  beta_reduce
  icases Hs with ⟨Hs0, Hs1, Hs00, Hs01, Hs10, Hs11, Hs20, Hs21⟩
  icases Hr with ⟨L00, L01, L10, L11, L20, L21⟩
  icases Ho with ⟨Ho0, Ho1, O00, O01, O10, O11, O20, O21⟩
  -- the barrier: each other device is told, its buffers handed over
  iapplyF (wp_signal_bar m c _ 2 (dev1_eq c) rfl rfl _ fr fo)
  iintro HO
  iapplyF (wp_signal_bar m c _ 1 (dev2_eq c) rfl rfl _ fr fo)
  iintro HO
  iapplyF (wp_signal_bar m c _ 0 (dev3_eq c) rfl rfl _ fr fo)
  iintro HO
  iapplyF (wp_wait_bar m c rfl _ (above_landings c))
  iintro ⟨HO, Bz, P0, P1, P2⟩
  unfold barPay
  icases P0 with ⟨L00, L01, O00, O01⟩
  icases P1 with ⟨L10, L11, O10, O11⟩
  icases P2 with ⟨L20, L21, O20, O21⟩
  -- the copies of the partial array's half groups
  iapplyF (wp_copy_in m c _ 1 0 (dev4_eq c) rfl rfl (off1_eq c 1 0) rfl _)
  iintro ⟨S10, HO⟩
  iapplyF (wp_copy_in m c _ 0 0 (dev5_eq c) rfl rfl (off1_eq c 0 0) rfl _)
  iintro ⟨S00, HO⟩
  iapplyF (wp_copy_in m c _ 2 0 (dev6_eq c) rfl rfl (off1_eq c 2 0) rfl _)
  iintro ⟨S20, HO⟩
  iapplyF (wp_copy_in m c _ 1 1 (dev7_eq c) rfl rfl (off1_eq c 1 1) rfl _)
  iintro ⟨S11, HO⟩
  iapplyF (wp_copy_in m c _ 0 1 (dev8_eq c) rfl rfl (off1_eq c 0 1) rfl _)
  iintro ⟨S01, HO⟩
  iapplyF (wp_copy_in m c _ 2 1 (dev9_eq c) rfl rfl (off1_eq c 2 1) rfl _)
  iintro ⟨S21, HO⟩
  -- half 0: own rows and the three landings summed, multiplied, stored, sent
  iapply (wp_load_own m c 0 (off2_eq c 0)) $$ Ht; iintro Ht
  iapplyF (wp_wait_dma m c (dix 1 0 0) rfl (payLeft c 0) (above_left c 0))
  iintro ⟨HO, R00, P⟩
  ihave P := (Entails.of_eq (dmaPay_1 m c 0 0)) $$ P
  iapply (wp_load_land m c 0 0 rfl) $$ P; iintro W00
  iapplyF (wp_wait_dma m c (dix 1 2 0) rfl (payLeft c 0) (above_left c 0))
  iintro ⟨HO, R20, P⟩
  ihave P := (Entails.of_eq (dmaPay_1 m c 2 0)) $$ P
  iapply (wp_load_land m c 2 0 rfl) $$ P; iintro W20
  iapplyF (wp_wait_dma m c (dix 1 1 0) rfl (payLeft c 0) (above_left c 0))
  iintro ⟨HO, R10, P⟩
  ihave P := (Entails.of_eq (dmaPay_1 m c 1 0)) $$ P
  iapply (wp_load_land m c 1 0 rfl) $$ P; iintro W10
  iapply (wp_load_res c 0 fo (off2_eq c 0)) $$ Ho0; iintro Ho0
  iapply (wp_store_res m c 0 fo (off2_eq c 0) rfl) $$ Ho0; iintro Ho0
  ihave Q := (out_shares c c 0 (outF m)) $$ Ho0
  icases Q with ⟨Q0, Q1, Q2⟩
  iapplyF (wp_copy_out m c _ 1 0 (dev10_eq c) rfl rfl (off3_eq c 0) _)
  iintro ⟨A10, HO⟩
  iapplyF (wp_copy_out m c _ 0 0 (dev11_eq c) rfl rfl (off3_eq c 0) _)
  iintro ⟨A00, HO⟩
  iapplyF (wp_copy_out m c _ 2 0 (dev12_eq c) rfl rfl (off3_eq c 0) _)
  iintro ⟨A20, HO⟩
  -- half 1: own rows and the three landings summed, multiplied, stored, sent
  iapply (wp_load_own m c 1 (off2_eq c 1)) $$ Ht; iintro Ht
  iapplyF (wp_wait_dma m c (dix 1 0 1) rfl (payLeft c 1) (above_left c 1))
  iintro ⟨HO, R01, P⟩
  ihave P := (Entails.of_eq (dmaPay_1 m c 0 1)) $$ P
  iapply (wp_load_land m c 0 1 rfl) $$ P; iintro W01
  iapplyF (wp_wait_dma m c (dix 1 2 1) rfl (payLeft c 1) (above_left c 1))
  iintro ⟨HO, R21, P⟩
  ihave P := (Entails.of_eq (dmaPay_1 m c 2 1)) $$ P
  iapply (wp_load_land m c 2 1 rfl) $$ P; iintro W21
  iapplyF (wp_wait_dma m c (dix 1 1 1) rfl (payLeft c 1) (above_left c 1))
  iintro ⟨HO, R11, P⟩
  ihave P := (Entails.of_eq (dmaPay_1 m c 1 1)) $$ P
  iapply (wp_load_land m c 1 1 rfl) $$ P; iintro W11
  iapply (wp_load_res c 1 fo (off2_eq c 1)) $$ Ho1; iintro Ho1
  iapply (wp_store_res m c 1 fo (off2_eq c 1) rfl) $$ Ho1; iintro Ho1
  ihave Q := (out_shares c c 1 (outF m)) $$ Ho1
  icases Q with ⟨Q0, Q1, Q2⟩
  iapplyF (wp_copy_out m c _ 1 1 (dev13_eq c) rfl rfl (off3_eq c 1) _)
  iintro ⟨A11, HO⟩
  iapplyF (wp_copy_out m c _ 0 1 (dev14_eq c) rfl rfl (off3_eq c 1) _)
  iintro ⟨A01, HO⟩
  iapplyF (wp_copy_out m c _ 2 1 (dev15_eq c) rfl rfl (off3_eq c 1) _)
  iintro ⟨A21, HO⟩
  -- the remaining landings and completions
  iapplyF (wp_wait_dma m c (dix 3 0 0) rfl _ (above_nil _))
  iintro ⟨HO, G00, P⟩
  ihave g00 := (Entails.of_eq (dmaPay_3 m c 0 0)) $$ P
  iapplyF (wp_wait_dma m c (dix 3 0 1) rfl _ (above_nil _))
  iintro ⟨HO, G01, P⟩
  ihave g01 := (Entails.of_eq (dmaPay_3 m c 0 1)) $$ P
  iapplyF (wp_wait_dma m c (dix 3 1 0) rfl _ (above_nil _))
  iintro ⟨HO, G10, P⟩
  ihave g10 := (Entails.of_eq (dmaPay_3 m c 1 0)) $$ P
  iapplyF (wp_wait_dma m c (dix 3 1 1) rfl _ (above_nil _))
  iintro ⟨HO, G11, P⟩
  ihave g11 := (Entails.of_eq (dmaPay_3 m c 1 1)) $$ P
  iapplyF (wp_wait_dma m c (dix 3 2 0) rfl _ (above_nil _))
  iintro ⟨HO, G20, P⟩
  ihave g20 := (Entails.of_eq (dmaPay_3 m c 2 0)) $$ P
  iapplyF (wp_wait_dma m c (dix 3 2 1) rfl _ (above_nil _))
  iintro ⟨HO, G21, P⟩
  ihave g21 := (Entails.of_eq (dmaPay_3 m c 2 1)) $$ P
  iapplyF (wp_wait_dma m c (dix 0 1 0) rfl _ (above_nil _))
  iintro ⟨HO, S10, P⟩
  ihave s10 := (Entails.of_eq (dmaPay_0 m c 1 0)) $$ P
  iapplyF (wp_wait_dma m c (dix 0 0 0) rfl _ (above_nil _))
  iintro ⟨HO, S00, P⟩
  ihave s00 := (Entails.of_eq (dmaPay_0 m c 0 0)) $$ P
  iapplyF (wp_wait_dma m c (dix 0 2 0) rfl _ (above_nil _))
  iintro ⟨HO, S20, P⟩
  ihave s20 := (Entails.of_eq (dmaPay_0 m c 2 0)) $$ P
  iapplyF (wp_wait_dma m c (dix 0 1 1) rfl _ (above_nil _))
  iintro ⟨HO, S11, P⟩
  ihave s11 := (Entails.of_eq (dmaPay_0 m c 1 1)) $$ P
  iapplyF (wp_wait_dma m c (dix 0 0 1) rfl _ (above_nil _))
  iintro ⟨HO, S01, P⟩
  ihave s01 := (Entails.of_eq (dmaPay_0 m c 0 1)) $$ P
  iapplyF (wp_wait_dma m c (dix 0 2 1) rfl _ (above_nil _))
  iintro ⟨HO, S21, P⟩
  ihave s21 := (Entails.of_eq (dmaPay_0 m c 2 1)) $$ P
  iapplyF (wp_wait_dma m c (dix 2 1 0) rfl _ (above_nil _))
  iintro ⟨HO, A10, P⟩
  ihave a10 := (Entails.of_eq (dmaPay_2 m c 1 0)) $$ P
  iapplyF (wp_wait_dma m c (dix 2 0 0) rfl _ (above_nil _))
  iintro ⟨HO, A00, P⟩
  ihave a00 := (Entails.of_eq (dmaPay_2 m c 0 0)) $$ P
  iapplyF (wp_wait_dma m c (dix 2 2 0) rfl _ (above_nil _))
  iintro ⟨HO, A20, P⟩
  ihave a20 := (Entails.of_eq (dmaPay_2 m c 2 0)) $$ P
  iapplyF (wp_wait_dma m c (dix 2 1 1) rfl _ (above_nil _))
  iintro ⟨HO, A11, P⟩
  ihave a11 := (Entails.of_eq (dmaPay_2 m c 1 1)) $$ P
  iapplyF (wp_wait_dma m c (dix 2 0 1) rfl _ (above_nil _))
  iintro ⟨HO, A01, P⟩
  ihave a01 := (Entails.of_eq (dmaPay_2 m c 0 1)) $$ P
  iapplyF (wp_wait_dma m c (dix 2 2 1) rfl _ (above_nil _))
  iintro ⟨HO, A21, P⟩
  ihave a21 := (Entails.of_eq (dmaPay_2 m c 2 1)) $$ P
  rw [wp_ret]; imodintro
  iapply Hk
  unfold bodyPost Φ₁ zeros scratch
  rw [out_eq]
  ihave Ho0 := (out_unshare c c 0 (outF m)) $$ [a00 a10 a20]
  · iclose
  ihave Ho1 := (out_unshare c c 1 (outF m)) $$ [a01 a11 a21]
  · iclose
  ihave Hs := (Entails.of_eq (src_eq m c).symm) $$ [Hs0 Hs1 s00 s01 s10 s11 s20 s21]
  · unfold each; beta_reduce; iclose
  ihave Hr := (Entails.of_eq (land_eq c (landF m c)).symm) $$ [W00 W01 W10 W11 W20 W21]
  · unfold each; beta_reduce; iclose
  unfold each
  beta_reduce
  iclose

end Cert.AllReduce

end
-- ==== Proof.Launch.lean ====
/-
# The launch: the protocol is set up on every device at once, the body runs, and every counter ends at zero
-/
module

public import proofs.«01_k».proof.Proof.Body
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos tallyL_append)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The body as the pipeline asks for it -/

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem before_t (c : Dev nD) (d) : (dats m 0 c).before (0 : Fin 3) t0_0 d = xstg m c := by
  unfold Dat.before; rw [if_pos (fetch0_0 t0_0)]; rfl
theorem before_w (c : Dev nD) (d) : (dats m 0 c).before (1 : Fin 3) t0_0 d = wstg m c := by
  unfold Dat.before; rw [if_pos (fetch0_1 t0_0)]; rfl

set_option maxRecDepth 4000 in
/-- The state the pipeline hands the body, -/
def bodyIn (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 4000 in
/-- and the one it takes back. -/
def bodyOut (c : Dev nD) : sProp 𝕄 :=
  iprop(Φ₁ c ∗ (dats m 0 c).owesAt 0 t0_0.succ
    ∗ stg c cc0_stg0_0 (xstg m c) ∗ stg c cc0_stg1_0 (wstg m c) ∗ stg c cc0_stg2_0 (outF m))

theorem body_enter (c : Dev nD) : bodyIn m c ⊢ bodyPre m c := by
  unfold bodyIn bodyPre ow Dat.owesAt Pipeline.owesWithin
  simp only [before_t, before_w]
  iintro ⟨HΦ, ⟨%W, -, HO⟩, ⟨%d0, %f0, %h0, H0⟩, ⟨%d1, %f1, %h1, H1⟩, ⟨%d2, %f2, -, H2⟩⟩
  subst h0; subst h1
  isplitl [HΦ]; · iexact HΦ
  isplitl [HO]; · iexists W; iexact HO
  isplitl [H0]; · iexact H0
  isplitl [H1]; · iexact H1
  iexists f2; iexact H2

theorem body_leave (c : Dev nD) : bodyPost m c ⊢ bodyOut m c := by
  unfold bodyOut bodyPost ow Dat.owesAt Pipeline.owesWithin
  iintro ⟨HΦ, ⟨%W, HO⟩, H0, H1, H2⟩
  isplitl [HΦ]; · iexact HΦ
  isplitl [HO]
  · iexists W; isplitr
    · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
/-- The library's body obligation on device `c`. -/
theorem body_obligation (c : Dev nD) : BodyObligation (dats (F := F) m 0 c) (defs₀ (F := F)) 𝒱₀ 0 Set.univ := fun t => by
  rw [fin_N0 t, bigSep_W0, bigSep_W0]
  simp only [owns_whole_eq]
  show bodyIn m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5)
          (fun _ => bodyOut m c)
  iintro H
  ihave H := (body_enter m c) $$ H
  iapply (sound_body m c fun _ => bodyOut m c)
  isplitl [H]; · iexact H
  iintro H
  iapply (body_leave m c); iexact H

/-! ## Sums over the cells of a device -/

/-- The kernel's own semaphores by kind and slot. -/
def byKind : Fin 4 × Fin 3 × Fin 2 ≃ Fin 24 where
  toFun x := dix x.1 x.2.1 x.2.2
  invFun a := (kindOf a, slotOf a, halfOf a)
  left_inv x := by
    have e := slotOf_dix x.1 x.2.1 x.2.2; have e' := halfOf_dix x.1 x.2.1 x.2.2; have k := kindOf_dix x.1 x.2.1 x.2.2
    exact Prod.ext k (Prod.ext e e')
  right_inv a := Fin.ext (by
    show 6 * (a.val / 6) + 2 * (a.val % 6 / 2) + a.val % 2 = a.val; omega)

/-- A thing for each of the kernel's own semaphores, kind by kind. -/
theorem bigSep_kinds (Φ : Fin 24 → sProp 𝕄) : bigSep Finset.univ Φ
    = iprop(each (fun j h => Φ (dix 0 j h)) ∗ each (fun j h => Φ (dix 1 j h)) ∗ each (fun j h => Φ (dix 2 j h)) ∗ each (fun j h => Φ (dix 3 j h))) := by
  rw [bigSep_univ_equiv byKind Φ, bigSep_univ_prod]
  rw [bigSep_univ_eq_bigSepL [0, 1, 2, 3] (by decide) (by decide)]
  show iprop(bigSep _ _ ∗ bigSep _ _ ∗ bigSep _ _ ∗ bigSep _ _) = _
  rw [bigSep_slots, bigSep_slots, bigSep_slots, bigSep_slots]
  rfl

/-- A thing for each cell of a device: the barrier's and its own semaphores'. -/
theorem bigSep_cells (Φ : Option (Fin 24) → sProp 𝕄) : bigSep Finset.univ Φ
    = iprop(Φ none ∗ bigSep Finset.univ fun a => Φ (some a)) := by
  rw [show (Finset.univ : Finset (Option (Fin 24))) = insert none (Finset.univ.map ⟨some, Option.some_injective _⟩) from by decide,
    bigSep_insert (by simp), bigSep_map]
  rfl

/-- Two families side by side, slot by slot. -/
theorem each_sep (Φ Ψ : Fin 3 → Fin 2 → sProp 𝕄) : iprop(each Φ ∗ each Ψ) = each fun j h => iprop(Φ j h ∗ Ψ j h) := by
  rw [← bigSep_slots (fun x => Φ x.1 x.2), ← bigSep_slots (fun x => Ψ x.1 x.2), ← bigSep_slots (fun x => iprop(Φ x.1 x.2 ∗ Ψ x.1 x.2)),
    ← bigSep_sep']

/-! ## The protocol's ghost state -/

theorem ownSemFacts : Pipeline.OwnSemFacts cfg0.spec osem := by decide

theorem share_eq (c : Dev nD) (w : Fin cfg0.W) : (dats m 0 c).share w = fullShare := by unfold Dat.share; split <;> rfl

/-- The protocol's cells, -/
def kCells : Finset (GSem nD τ sig) := Finset.univ.map ⟨kcell, kcell_injective⟩

/-- and each device's duty tokens as minted: three at its barrier, one at each semaphore of its own. -/
abbrev tokOf (x : Dev nD × (Fin 3 ⊕ Fin 24)) : GSem nD τ sig × ℕ × Fin 3 := match x.2 with
  | .inl j => (barCell x.1, 0, j)
  | .inr a => (dmaCell x.1 a, 0, 0)
theorem tokOf_injective : Function.Injective tokOf := by
  rintro ⟨c, j | a⟩ ⟨c', j' | a'⟩ h
  · have h1 := kcell_injective (congrArg Prod.fst h)
    have h2 : j = j' := congrArg (fun x : GSem nD τ sig × ℕ × Fin 3 => x.2.2) h
    have h3 : c = c' := (Prod.ext_iff.mp h1).1
    rw [h3, h2]
  · exact absurd (Prod.ext_iff.mp (kcell_injective (congrArg Prod.fst h))).2 (fun h' => by cases h')
  · exact absurd (Prod.ext_iff.mp (kcell_injective (congrArg Prod.fst h))).2 (fun h' => by cases h')
  · have h1 := Prod.ext_iff.mp (kcell_injective (congrArg Prod.fst h))
    rw [show c = c' from h1.1, Option.some_injective _ h1.2]
def kToks : Finset (GSem nD τ sig × ℕ × Fin 3) := Finset.univ.map ⟨tokOf, tokOf_injective⟩

/-- The launch's ghost element: the pipeline's, and the protocol's. -/
def u₀ : UU :=
  (initOf (Pipeline.cells cfgs cellOf_inj) (Pipeline.launchToks cfgs cellOf_inj), initOf kCells kToks)

/-- The duty tokens of device `c`'s own cells. -/
def toks (c : Dev nD) : sProp 𝕄 :=
  iprop((bigSep Finset.univ fun j : Fin 3 => dutyTok ER (barCell c) 0 j) ∗ bigSep Finset.univ fun a : Fin 24 => dutyTok ER (dmaCell c a) 0 0)
/-- The positions at device `c`'s own cells. -/
def poss (c : Dev nD) : sProp 𝕄 := bigSep Finset.univ fun k => atPos ER (kcell (c, k)) 0 ∅ 0

/-- What the launch element deals device `c`. -/
def G (c : Dev nD) : sProp 𝕄 :=
  iprop((bigSep Finset.univ fun k => roundState ER (Rd m) (kcell (c, k)) 0)
    ∗ (bigSep Finset.univ fun k => reached ER (kcell (c, k)) 0) ∗ poss c ∗ toks c)

theorem fund_cells : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum]; rfl
  iintro HX
  imod (Rounds.fund ER (Rd m) kCells kToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hr]; · iexact Hr
  isplitl [Hat]; · iexact Hat
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every counter of the protocol at zero: the launch's unscoped semaphore and the kernel's own. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, bigSep_cells]
  iintro ⟨HS, HB⟩
  isplitl [HB]; · iexact HB
  ihave HS := (show (Pipeline.ownSems0 (Ix := ℕ) (Name := ℕ) (U := UU) (Lvl := ℕ) (Val := Elt F) (τ := τ) osem c : sProp 𝕄)
      ⊢ bigSep Finset.univ fun a => semVal (kcell (c, some a)) 0 from Entails.of_eq rfl) $$ HS
  iexact HS

theorem cellOk_intro (g : GSem nD τ sig) :
    iprop((∃ κ : ℕ, cellInv ER (Rd m) κ g) ∗ reached ER g 0) ⊢ (cellOk m g : sProp 𝕄) := by
  unfold cellOk
  iintro ⟨⟨%κ, H⟩, Hr⟩
  iexists κ
  isplitl [H] <;> iassumption

/-- One device's cells enter the protocol. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => cellOk m (kcell (c, k))) ∗ poss c ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hr]
  · iapply (show iprop((bigSep Finset.univ fun k => iprop(∃ κ : ℕ, cellInv ER (Rd m) κ (kcell (c, k)))) ∗ bigSep Finset.univ fun k => reached ER (kcell (c, k)) 0)
        ⊢ (bigSep Finset.univ fun k => cellOk m (kcell (c, k)) : sProp 𝕄) from by
          rw [← bigSep_sep']
          exact bigSep_mono fun k _ => cellOk_intro m _)
    isplitl [Hinv] <;> iassumption
  isplitl [Hat]; · iexact Hat
  iexact Htok

/-! ## The tokens go to whoever pays -/

/-- The device whose cell `a` device `c`'s copy pays, as a permutation: its own for a departure, the one the copy goes to for a landing. -/
def target (a : Fin 24) : Dev nD ≃ Dev nD := if (kindOf a).val % 2 = 0 then Equiv.refl _ else rot (slotOf a)

theorem target_0 (c : Dev nD) (j h) : target (dix 0 j h) c = c := by revert c j h; decide
theorem target_1 (c : Dev nD) (j h) : target (dix 1 j h) c = nx c j := by revert c j h; decide
theorem target_2 (c : Dev nD) (j h) : target (dix 2 j h) c = c := by revert c j h; decide
theorem target_3 (c : Dev nD) (j h) : target (dix 3 j h) c = nx c j := by revert c j h; decide

/-- The tokens of the duties device `c` pays. -/
def payToks (c : Dev nD) : sProp 𝕄 :=
  iprop((bigSep Finset.univ fun j : Fin 3 => dutyTok ER (barCell (pr c j)) 0 j)
    ∗ bigSep Finset.univ fun a : Fin 24 => dutyTok ER (dmaCell (target a c) a) 0 0)

/-- The minted tokens, dealt to the payers. -/
theorem toks_around : (bigSep Finset.univ fun c : Dev nD => (toks c : sProp 𝕄)) = bigSep Finset.univ fun c : Dev nD => payToks c := by
  unfold toks payToks
  rw [bigSep_sep', bigSep_sep', Pipeline.bigSep_univ_comm, Pipeline.bigSep_univ_comm (fun c a => (dutyTok ER (dmaCell c a) 0 0 : sProp 𝕄)),
    Pipeline.bigSep_univ_comm (fun c j => (dutyTok ER (barCell (pr c j)) 0 j : sProp 𝕄)),
    Pipeline.bigSep_univ_comm (fun c a => (dutyTok ER (dmaCell (target a c) a) 0 0 : sProp 𝕄))]
  congr 1
  · exact bigSep_congr fun j _ => bigSep_univ_equiv (rot j).symm (fun c : Dev nD => (dutyTok ER (barCell c) 0 j : sProp 𝕄))
  · exact bigSep_congr fun a _ => bigSep_univ_equiv (target a) (fun c : Dev nD => (dutyTok ER (dmaCell c a) 0 0 : sProp 𝕄))

/-- What the global step leaves each device: every cell is in the protocol, and its own positions and tokens. -/
def G' (c : Dev nD) : sProp 𝕄 :=
  iprop((bigSep Finset.univ fun ck : Dev nD × Option (Fin 24) => cellOk m (kcell ck)) ∗ poss c ∗ payToks c)

theorem regroup :
    (bigSep Finset.univ fun c : Dev nD => iprop((bigSep Finset.univ fun k => cellOk m (kcell (c, k))) ∗ poss c ∗ toks c) : sProp 𝕄)
      ⊢ bigSep Finset.univ (G' m) := by
  unfold G'
  rw [bigSep_sep', bigSep_sep', bigSep_sep', bigSep_sep', ← bigSep_univ_prod (fun ck : Dev nD × Option (Fin 24) => cellOk m (kcell ck)), toks_around]
  exact sep_mono_left (BI.bigSep_of_persistent Finset.univ _)

/-- The global step. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits dealt at launch -/

/-- The landings of kind `k` device `c` is paid. -/
def paidDma (k : Fin 4) (c : Dev nD) : List (Pay nD τ sig) := order.map fun x => (dmaCell c (dix k x.1 x.2), 0, N)
/-- All that device `c` is paid. -/
def paid (c : Dev nD) : List (Pay nD τ sig) := [(barCell c, 0, 1), (barCell c, 0, 1), (barCell c, 0, 1)] ++ (paidDma 1 c ++ paidDma 3 c)

/-- A sum over the devices of one payment each, to the device a rotation away, is the same sum of payments to oneself. -/
theorem sum_around (e : Dev nD ≃ Dev nD) (k : Option (Fin 24)) (n : ℕ) :
    (∑ d : Dev nD, (tallyAt (kcell (e d, k)) 0 n : CellTallies nD τ sig ℕ)) = ∑ d : Dev nD, tallyAt (kcell (d, k)) 0 n :=
  Equiv.sum_comp e fun d => (tallyAt (kcell (d, k)) 0 n : CellTallies nD τ sig ℕ)

theorem sum_dma (k : Fin 4) : (∑ d : Dev nD, (tallyL (payDma k d) : CellTallies nD τ sig ℕ)) = ∑ d : Dev nD, tallyL (paidDma k d) := by
  unfold payDma paidDma
  induction order with
  | nil => rfl
  | cons x l ih =>
    simp only [List.map_cons, tallyL, Finset.sum_add_distrib]
    rw [ih]
    exact congrArg (· + _) (sum_around (rot x.1) (some (dix k x.1 x.2)) N)

theorem sum_dues : (∑ d : Dev nD, (tallyL (dues d) : CellTallies nD τ sig ℕ)) = ∑ d : Dev nD, tallyL (paid d) := by
  unfold dues paid payBar
  simp only [tallyL_append, Finset.sum_add_distrib, sum_dma, tallyL]
  rw [show (∑ d : Dev nD, (tallyAt (barCell (pr d 2)) 0 1 : CellTallies nD τ sig ℕ)) = _ from sum_around (rot 2).symm none 1,
    show (∑ d : Dev nD, (tallyAt (barCell (pr d 1)) 0 1 : CellTallies nD τ sig ℕ)) = _ from sum_around (rot 1).symm none 1,
    show (∑ d : Dev nD, (tallyAt (barCell (pr d 0)) 0 1 : CellTallies nD τ sig ℕ)) = _ from sum_around (rot 0).symm none 1]

theorem paid_own (c : Dev nD) (x : Pay nD τ sig) (hx : x ∈ paid c) : x.1.1 = (c.tc : Thread nD τ) := by
  unfold paid paidDma at hx
  rcases List.mem_append.mp hx with hx | hx
  · simp only [List.mem_cons, List.not_mem_nil, or_false, or_self] at hx; rw [hx]
  · rcases List.mem_append.mp hx with hx | hx <;> obtain ⟨y, -, rfl⟩ := List.mem_map.mp hx <;> rfl

/-- The launch deals device `c` the credit for all it is paid. -/
theorem launch_paid (c : Dev nD) : (Pipeline.launchCred (fun d => tallyL (dues d)) c : sProp 𝕄) = cred (tallyL (paid c)) :=
  Pipeline.launchCred_of_sum _ (fun d => tallyL (paid d)) sum_dues (fun d g hg => by
    obtain ⟨u, hu⟩ := DFunLike.ne_iff.mp hg
    obtain ⟨x, hx, rfl, -⟩ := tallyL_pos (Nat.pos_of_ne_zero hu)
    exact paid_own d x hx) c

theorem cred_plus (a b : CellTallies nD τ sig ℕ) : (cred (a + b) : sProp 𝕄) = iprop(cred a ∗ cred b) :=
  BI.Entails.antisymm (cred_add _ _).1 (cred_add _ _).2

/-- The credit for the landings of one kind, slot by slot. -/
theorem cred_dma (k : Fin 4) (c : Dev nD) : (cred (tallyL (paidDma k c)) : sProp 𝕄)
    = each fun j h => cred (tallyAt (dmaCell c (dix k j h)) 0 N) := by
  unfold paidDma
  rw [TalkSites.cred_tallyL,
    ← bigSep_slots (fun x => (cred (tallyAt (dmaCell c (dix k x.1 x.2)) 0 N) : sProp 𝕄)),
    bigSep_univ_eq_bigSepL order (by decide) (by decide)]
  rfl

theorem creds (c : Dev nD) : (Pipeline.launchCred (fun d => tallyL (dues d)) c : sProp 𝕄)
    = iprop(cred (tallyAt (barCell c) 0 3) ∗ each (fun j h => cred (tallyAt (dmaCell c (dix 1 j h)) 0 N))
        ∗ each (fun j h => cred (tallyAt (dmaCell c (dix 3 j h)) 0 N))) := by
  rw [launch_paid, show (tallyL (paid c) : CellTallies nD τ sig ℕ) = tallyAt (barCell c) 0 3 + (tallyL (paidDma 1 c) + tallyL (paidDma 3 c)) from by
      unfold paid
      rw [tallyL_append, tallyL_append]
      simp only [tallyL, add_zero, tallyAt_add],
    cred_plus, cred_plus, cred_dma, cred_dma]

/-! ## Before the body, and after -/

/-- A device's positions, kind by kind. -/
theorem poss_eq (c : Dev nD) : (poss c : sProp 𝕄) = iprop(atPos ER (barCell c) 0 ∅ 0
    ∗ each (fun j h => atPos ER (dmaCell c (dix 0 j h)) 0 ∅ 0) ∗ each (fun j h => atPos ER (dmaCell c (dix 1 j h)) 0 ∅ 0)
    ∗ each (fun j h => atPos ER (dmaCell c (dix 2 j h)) 0 ∅ 0) ∗ each (fun j h => atPos ER (dmaCell c (dix 3 j h)) 0 ∅ 0)) := by
  unfold poss; rw [bigSep_cells, bigSep_kinds]

/-- The tokens of the duties a device pays, kind by kind. -/
theorem payToks_eq (c : Dev nD) : (payToks c : sProp 𝕄) = iprop(
    (dutyTok ER (barCell (pr c 0)) 0 0 ∗ dutyTok ER (barCell (pr c 1)) 0 1 ∗ dutyTok ER (barCell (pr c 2)) 0 2)
    ∗ each (fun j h => dutyTok ER (dmaCell c (dix 0 j h)) 0 0) ∗ each (fun j h => dutyTok ER (dmaCell (nx c j) (dix 1 j h)) 0 0)
    ∗ each (fun j h => dutyTok ER (dmaCell c (dix 2 j h)) 0 0) ∗ each (fun j h => dutyTok ER (dmaCell (nx c j) (dix 3 j h)) 0 0)) := by
  unfold payToks
  rw [bigSep_fin3, bigSep_kinds]
  simp only [target_0, target_1, target_2, target_3]

/-- Positions, tokens and credits are what the body starts with. -/
theorem start_of (c : Dev nD) :
    iprop(poss c ∗ payToks c ∗ Pipeline.launchCred (fun d => tallyL (dues d)) c) ⊢ (start c : sProp 𝕄) := by
  rw [poss_eq, payToks_eq, creds]
  unfold start sendTok tick
  simp only [← each_sep]
  iintro ⟨⟨Pb, P0, P1, P2, P3⟩, ⟨Tb, T0, T1, T2, T3⟩, ⟨Cb, C1, C3⟩⟩
  isplitl [Pb]; · iexact Pb
  isplitl [Cb]; · iexact Cb
  isplitl [Tb]; · iexact Tb
  isplitl [T0 T1 P0]
  · isplitl [T0]; · iexact T0
    isplitl [T1] <;> iassumption
  isplitl [T2 T3 P2]
  · isplitl [T2]; · iexact T2
    isplitl [T3] <;> iassumption
  isplitl [P1 C1]
  · isplitl [P1] <;> iassumption
  isplitl [P3] <;> iassumption

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => tallyL (dues d)) c ∗ prngReg c (ρ c) ∗ G' m c)
      ⊢ |={Set.univ}=> iprop((records m ∗ start c) ∗ emp) := by
  unfold G' records
  iintro ⟨-, Hlev, Hcr, -, HI, HP, HT⟩
  imodintro
  isplitl
  · isplitl [HI Hlev]
    · isplitl [HI] <;> iassumption
    iapply (start_of (F := F) c)
    isplitl [HP]; · iexact HP
    isplitl [HT] <;> iassumption
  · iempintro

theorem phi0_intro (c : Dev nD) :
    iprop((records m ∗ start c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem ownSems0_eq (c : Dev nD) :
    (Pipeline.ownSems0 (Ix := ℕ) (Name := ℕ) (U := UU) (Lvl := ℕ) (Val := Elt F) (τ := τ) osem c : sProp 𝕄) = zeros c := by
  unfold Pipeline.ownSems0; rw [bigSep_kinds]; rfl

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz]; · iexact Hz
  iexact Hr

/-- All that a device owes lies above the staging semaphores. -/
theorem above_dues (c : Dev nD) : ∀ x ∈ dues c, Above 0 x := fun x hx => by
  unfold dues at hx
  rcases List.mem_append.mp hx with hx | hx
  · exact above_bar 0 (by decide) c x hx
  · rcases List.mem_append.mp hx with hx | hx
    · exact above_dma1 0 (by decide) c x hx
    · exact above_dma3 0 (by decide) c x hx

theorem mayWait_stage (c : Dev nD) (sm : SemLoc sig) (hs : lvS sm = 0) (l : List (Pay nD τ sig)) (hl : ∀ x ∈ l, Above 0 x) :
    (levAts L lv : sProp 𝕄) ⊢ MayWait (c : Thread nD τ) sm 0 (tallyL l) :=
  mayWait c sm l (by rw [hs]; exact hl)

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_stage c _ (by clear ht; fin_cases w <;> fin_cases s <;> decide) (dues c) (above_dues c)
    · exact mayWait_stage c _ (by clear ht; fin_cases w <;> fin_cases s <;> decide) [] (above_nil 0)

/-! ## The run -/

/-- The contents of window `w`'s array on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On four devices, for any float values, from any memory with zero counters: every weakly fair execution of `main` ends,
    with each device's arrays at the contents of the pipeline's data and every semaphore counter at zero. -/
theorem run_main (ρ : Dev nD → PrngReg) : θ_run defs (onTc (τ := τ) (main (F := F))) ⟨m, fun _ => 0, ρ⟩
    (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := fun c => tallyL (dues c)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(records m ∗ start c)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Value.lean ====
/-
# What the run leaves, and that it is what the reference computes

Every device ends with the same array: row by row, the sum of the four devices' rows times the weights. Read over the
extended reals that is, entry by entry, the reference's product of the summed stack with the weights.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.PureOps.Ideal.Laws
public import Idealize.ShloMosaic.Lib.MatmulPlain
public import Idealize.ShloMosaic.Lib.StackMember
public import Idealize.ShloMosaic.Lib.Quiescent

@[expose] public section

noncomputable section

namespace Cert.AllReduce

open Cert.KernelIdeal Cert.KernelIdeal.Gen

open Idealize.ShloMosaic
open Idealize.ShloMosaic.TcCoe
open Idealize.SL.Sem
open Idealize.ShloMosaic.ValueIdx
open scoped BigOperators

section AnyFloat

variable {F : FTy → Type} [FloatOps F]
variable (m : (ℓ : Loc nD τ sig) → Buf (Elt F) ℓ)

/-! ## The arrays after the run, over any floats -/

/-- The block array ends as it began. -/
theorem finalA_t (c : Dev nD) : finalA m c (0 : Fin 3) = m (win0_0.arr.view.loc (c : Thread nD τ)) :=
  (dats m 0 c).arrAt_in (0 : Fin 3) rfl _

/-- The weights end as they began. -/
theorem finalA_w (c : Dev nD) : finalA m c (1 : Fin 3) = m (win0_1.arr.view.loc (c : Thread nD τ)) :=
  (dats m 0 c).arrAt_in (1 : Fin 3) rfl _

/-- The result window of the result array, after the run, is the result the body left. -/
theorem finalA_window (c : Dev nD) : (win0_2.blk (0 : Fin 1)).view.read (Elt F) (finalA m c (2 : Fin 3)) = outF m := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- The block array's window is the whole array. -/
theorem xstg_eq (c : Dev nD) : xstg m c = m ((c : Thread nD τ).loc main_arg0) := by
  have hz : (fun a => win0_0.index t0_0 a * main_arg0.ty.shape.size a) = fun _ => 0 :=
    funext fun a => by fin_cases a <;> decide
  exact Memref.read_access_unit_zero (Elt F) main_arg0 hz (fun a => by rw [congrFun hz a]; simp) _

/-- The weights' window is the whole array. -/
theorem wstg_eq (c : Dev nD) : wstg m c = m ((c : Thread nD τ).loc main_arg1) := by
  have hz : (fun a => win0_1.index t0_0 a * main_arg1.ty.shape.size a) = fun _ => 0 :=
    funext fun a => by fin_cases a <;> decide
  exact Memref.read_access_unit_zero (Elt F) main_arg1 hz (fun a => by rw [congrFun hz a]; simp) _

/-- The result array ends holding the result. -/
theorem finalA_o (c : Dev nD) : finalA m c (2 : Fin 3) = outF m := by
  have hz : (fun a => win0_2.index t0_0 a * main_v1.ty.shape.size a) = fun _ => 0 :=
    funext fun a => by fin_cases a <;> decide
  exact (Memref.read_access_unit_zero (Elt F) main_v1 hz (fun a => by rw [congrFun hz a]; simp) _).symm.trans
    (finalA_window m c)

/-- A source buffer holds its device's block. -/
theorem srcF_eq (c : Dev nD) : srcF m c = m ((c : Thread nD τ).loc main_arg0) := by
  show shapeCast S512x256 (shapeCast S512x256 (xstg m c) _) _ = _
  rw [shapeCast_self, shapeCast_self, xstg_eq]

/-- What landed in a slot, as the sixty-four rows the body reads, are the same rows of the sender's block. -/
theorem landV_cast (p : Dev nD) (j : Fin 3) (h : Fin 2) (e : S1x1x64x256.ShapeCasts S64x256) (x : S64x256.Idx) :
    shapeCast S64x256 (landV m p j h) e x = m ((pr p j : Thread nD τ).loc main_arg0) (rowAt p h x) := by
  show landF m p (slotAt j h (Shape.reshapeEquiv e x)) = _
  rw [landF_slotAt, reshape_drop2, srcF_eq]

end AnyFloat

/-! ## Over the extended reals -/

variable (m : (ℓ : Loc nD τ sig) → Buf (Elt Ideal) ℓ)

/-- The block of a device, as extended reals. -/
def tBlk (c : Dev nD) : S512x256.Idx → EReal := m ((c : Thread nD τ).loc main_arg0)

/-- The weights of a device, as extended reals. -/
def wBlk (c : Dev nD) : S256x256.Idx → EReal := m ((c : Thread nD τ).loc main_arg1)

/-- A device's own term and those of the three devices it receives from, in the order the body adds them, sum all four. -/
theorem four_sum (f : Dev nD → EReal) (p : Dev nD) :
    ((f p + f (pr p 0)) + f (pr p 2)) + f (pr p 1) = ∑ d : Dev nD, f d := by
  rw [show (∑ d : Dev nD, f d) = f 0 + f 1 + f 2 + f 3 from Fin.sum_univ_four f]
  fin_cases p
  · show ((f 0 + f 3) + f 1) + f 2 = _; abel
  · show ((f 1 + f 0) + f 2) + f 3 = _; abel
  · show ((f 2 + f 1) + f 3) + f 0 = _; abel
  · show ((f 3 + f 2) + f 0) + f 1 = _; abel

/-- The left operand of a device's product is the sum of the four devices' rows. -/
theorem acc_eq (p : Dev nD) (h : Fin 2) (x : S64x256.Idx) :
    (addf (k0_pay3 (ownV m p h) (landV m p 0 h) (landV m p 2 h))
        (extf .f32 (shapeCast S64x256 (landV m p 1 h) shapeCasts_S1x1x64x256_S64x256) bitsLt_bf16_f32) x : EReal)
      = ∑ d : Dev nD, tBlk m d (rowAt p h x) := by
  show ((shapeCast S64x256 (ownV m p h) shapeCasts_S64x256_S64x256 x + shapeCast S64x256 (landV m p 0 h) _ x)
      + shapeCast S64x256 (landV m p 2 h) _ x) + shapeCast S64x256 (landV m p 1 h) _ x = _
  rw [landV_cast, landV_cast, landV_cast, shapeCast_self]
  show ((xstg m p (rowAt p h x) + _) + _) + _ = _
  rw [xstg_eq]
  exact four_sum (fun d => tBlk m d (rowAt p h x)) p

/-- An entry of a device's product: the summed row times a column of the weights. -/
theorem prodV_apply (p : Dev nD) (h : Fin 2) (r : Fin 64) (q : Fin 256) :
    prodV m p h (ix2 r q) = ∑ k : Fin 256,
      (∑ d : Dev nD, tBlk m d (rowAt p h (ix2 r k))) * wBlk m p (ix2 k q) := by
  show FloatOps.matmul (φ₁ := .bf16) (φ₂ := .bf16) (DotDims.plain 64 256 256) none
      (addf (k0_pay3 (ownV m p h) (landV m p 0 h) (landV m p 2 h))
        (extf .f32 (shapeCast S64x256 (landV m p 1 h) shapeCasts_S1x1x64x256_S64x256) bitsLt_bf16_f32))
      (shapeCast S256x256 (wstg m p) _) (constant S64x256 .f32 0x00000000#32) (ix2 r q) = _
  rw [Ideal.matmul_plain_apply]
  rw [show (constant (F := Ideal) S64x256 .f32 0x00000000#32) (ix2 r q) = 0 from Ideal.ofBits_zero_f32, zero_add]
  refine Finset.sum_congr rfl fun k _ => ?_
  rw [shapeCast_self, wstg_eq]
  exact congrArg (· * wBlk m p (ix2 k q)) (acc_eq m p h (ix2 r k))

/-- The row of a `512 × 256` array that row `r` of half `h` of group `p` is. -/
theorem rowAt_ix2 (i : Fin 512) (p : Dev nD) (h : Fin 2) (r : Fin 64) (e : i.val = 128 * p.val + 64 * h.val + r.val)
    (k : Fin 256) : rowAt p h (ix2 r k) = ix2 i k := by
  funext a
  fin_cases a
  · exact Fin.ext (show 128 * p.val + 64 * h.val + 1 * r.val = i.val by omega)
  · exact Fin.ext (show 0 + 1 * k.val = k.val by omega)

/-- An entry of the result: the four devices' rows summed, times a column of the weights, where every device has the
    weights `W`. -/
theorem outF_apply (W : S256x256.Idx → EReal) (hW : ∀ c : Dev nD, wBlk m c = W)
    (i : Fin 512) (q : Fin 256) :
    outF m (ix2 i q) = ∑ k : Fin 256, (∑ d : Dev nD, tBlk m d (ix2 i k)) * W (ix2 k q) := by
  have hi := i.isLt
  let p : Dev nD := ⟨i.val / 128, by show _ < 4; omega⟩
  let h : Fin 2 := ⟨i.val % 128 / 64, by omega⟩
  let r : Fin 64 := ⟨i.val % 64, by omega⟩
  have e : i.val = 128 * p.val + 64 * h.val + r.val := by
    show i.val = 128 * (i.val / 128) + 64 * (i.val % 128 / 64) + i.val % 64; omega
  rw [← rowAt_ix2 i p h r e q, outF_rowAt, prodV_apply]
  refine Finset.sum_congr rfl fun k _ => ?_
  rw [hW, rowAt_ix2 i p h r e k]

/-! ## The reference -/

/-- What the reference leaves in its result, of the stacked blocks and the weights. -/
def refV (T : Cert.ReferenceIdeal.S2048x256.Idx → EReal) (W : S256x256.Idx → EReal) : S512x256.Idx → EReal :=
  truncf (F := Ideal) .bf16 (Host.dotGeneral (φ₁ := .bf16) (φ₂ := .bf16) Cert.ReferenceIdeal.dot_S512x256_S256x256_S512x256_1_0_0_1_n_n none
    (truncf .bf16 (Host.reduceAdd (shapeCast _ (extf (F := Ideal) (φ := .bf16) .f32 T Cert.ReferenceIdeal.Gen.bitsLt_bf16_f32)
        Cert.ReferenceIdeal.Gen.shapeCasts_S2048x256_S4x512x256)
      (constant Cert.ReferenceIdeal.S_ .f32 0x00000000#32) Cert.ReferenceIdeal.Gen.reducesTo_S4x512x256_S512x256_d0
      Cert.ReferenceIdeal.Gen.h_S_) Cert.ReferenceIdeal.Gen.bitsLt_bf16_f32) W) Cert.ReferenceIdeal.Gen.bitsLt_bf16_f32

/-- Row `i` of block `d` of the stack. -/
def stackRow (d : Fin 4) (i : Fin 512) : Fin 2048 := ⟨d.val * 512 + i.val, by omega⟩

/-- The stack seen as four blocks: entry `(i, k)` of block `d` is entry `(512 d + i, k)` of the stack. -/
theorem stack_cast (T : Cert.ReferenceIdeal.S2048x256.Idx → EReal) (e : Cert.ReferenceIdeal.S2048x256.ShapeCasts Cert.ReferenceIdeal.S4x512x256)
    (y : Cert.ReferenceIdeal.S4x512x256.Idx) (d : Fin 4) (i : Fin 512) (k : Fin 256)
    (h0 : (y 0).val = d.val) (h1 : (y 1).val = i.val) (h2 : (y 2).val = k.val) :
    shapeCast Cert.ReferenceIdeal.S4x512x256 T e y = T (ix2 (stackRow d i) k) := by
  refine congrArg T (Shape.reshapeEquiv_eq_of_rowMajor _ ?_)
  rw [Shape.rowMajor_val_two, Shape.rowMajor_val_three, h0, h1, h2]
  rfl

/-- An entry of the reference's result: the four blocks' rows summed, times a column of the weights. -/
theorem refV_apply (T : Cert.ReferenceIdeal.S2048x256.Idx → EReal) (W : S256x256.Idx → EReal) (i : Fin 512) (q : Fin 256) :
    refV T W (ix2 i q) = ∑ k : Fin 256, (∑ d : Fin 4, T (ix2 (stackRow d i) k)) * W (ix2 k q) := by
  refine (StackMember.dotGeneral_plain_apply (φ₁ := .bf16) (φ₂ := .bf16) none _ W i q).trans ?_
  refine Finset.sum_congr rfl fun k _ => congrArg (· * W (ix2 k q)) ?_
  have hr : Cert.ReferenceIdeal.S4x512x256.Reduces [0] S512x256 := by decide
  show Ideal.hostReduceAdd Cert.ReferenceIdeal.Gen.reducesTo_S4x512x256_S512x256_d0
    (shapeCast Cert.ReferenceIdeal.S4x512x256 T Cert.ReferenceIdeal.Gen.shapeCasts_S2048x256_S4x512x256)
    (constant (F := Ideal) Cert.ReferenceIdeal.S_ .f32 0x00000000#32 (fun a => a.elim0)) (ix2 i k) = _
  rw [Ideal.hostReduceAdd_single _ hr]
  rw [show (constant (F := Ideal) Cert.ReferenceIdeal.S_ .f32 0x00000000#32 (fun a => a.elim0)) = (0 : EReal) from
    Ideal.ofBits_zero_f32, zero_add]
  exact Finset.sum_congr rfl fun d _ => stack_cast T _ _ d i k rfl rfl rfl

/-- Where the devices' blocks are the stack cut into four and every device has the weights, the result is the
    reference's. -/
theorem outF_eq_refV (T : Cert.ReferenceIdeal.S2048x256.Idx → EReal) (W : S256x256.Idx → EReal)
    (hT : ∀ c : Dev nD, tBlk m c = Layout.block ⟨2, ![512, 256]⟩ ⟨2, ![2048, 256]⟩ 0 4 c T)
    (hW : ∀ c : Dev nD, wBlk m c = W) : outF m = refV T W := by
  funext x
  obtain ⟨i, q, rfl⟩ : ∃ (i : Fin 512) (q : Fin 256), x = ix2 i q :=
    ⟨x 0, x 1, funext fun a => by fin_cases a <;> rfl⟩
  rw [outF_apply m W hW, refV_apply]
  refine Finset.sum_congr rfl fun k _ => congrArg (· * W (ix2 k q)) (Finset.sum_congr rfl fun d _ => ?_)
  rw [hT d]
  refine congrArg T (funext fun a => ?_)
  fin_cases a <;> rfl

/-! ## The claims -/

/-- The two programs name one body for each label. -/
theorem bodies_eq : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- The two programs have one body table. -/
theorem defs_eq : Cert.Kernel.defs (F := Bits) = Cert.KernelIdeal.defs (F := Bits) :=
  congrArg (Pipeline.defs Cert.KernelIdeal.pcfgs) bodies_eq

/-- The kernel at bit patterns ends quiescent, its arguments unchanged: its text is the one the run was proved of. -/
theorem frame_kernel : Cert.quiescent_Kernel := fun m ρ _ => by
  rw [defs_eq]
  exact (θ_run Cert.KernelIdeal.defs _ _).mono
    (fun _ h => ⟨fun c => ⟨(h.1 c (0 : Fin 3)).trans (finalA_t m c), (h.1 c (1 : Fin 3)).trans (finalA_w m c)⟩, h.2⟩)
    (run_main (F := Bits) m ρ)

/-- The kernel over the extended reals ends quiescent, its arguments unchanged. -/
theorem frame_kernelIdeal : Cert.quiescent_KernelIdeal := fun m ρ _ =>
  (θ_run Cert.KernelIdeal.defs _ _).mono
    (fun _ h => ⟨fun c => ⟨(h.1 c (0 : Fin 3)).trans (finalA_t m c), (h.1 c (1 : Fin 3)).trans (finalA_w m c)⟩, h.2⟩)
    (run_main (F := Ideal) m ρ)

/-- The reference ends quiescent, its arguments unchanged. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals every device ends with the reference's result. -/
theorem algebraic : Cert.algebraic_KernelIdeal_ReferenceIdeal := by
  intro m ρ m' ρ' _ hagree
  let W := m' (((0 : Dev Cert.ReferenceIdeal.nD).tc : Thread _ Cert.ReferenceIdeal.τ).loc Cert.ReferenceIdeal.main_arg1)
  let T := m' (((0 : Dev Cert.ReferenceIdeal.nD).tc : Thread _ Cert.ReferenceIdeal.τ).loc Cert.ReferenceIdeal.main_arg0)
  refine ⟨refV T W, ?_, ?_⟩
  · exact (θ_run Cert.KernelIdeal.defs _ _).mono
      (fun _ h c => ⟨(h.1 c (2 : Fin 3)).trans ((finalA_o m c).trans
          (outF_eq_refV m T W (fun c => (hagree c).1) (fun c => (hagree c).2))),
        (h.1 c (0 : Fin 3)).trans (finalA_t m c), (h.1 c (1 : Fin 3)).trans (finalA_w m c)⟩)
      (run_main (F := Ideal) m ρ)
  · exact (θ_run Cert.ReferenceIdeal.defs _ _).mono (fun _ h => h 0)
      (Cert.ReferenceIdeal.Value.run (F := Ideal) m' ρ')

end Cert.AllReduce

end
-- ==== Proof.lean ====
/- The proof of the certificate's claim: the kernel's run at bit patterns and over the extended reals, the reference's
   run, and the equality of what the two leave. The work is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.AllReduce.frame_kernel, Cert.AllReduce.frame_kernelIdeal, Cert.AllReduce.frame_reference,
    trivial, Cert.AllReduce.algebraic⟩

end Cert.Proof

end
